-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S_ : Shape := ⟨0, ![]⟩
abbrev S512 : Shape := ⟨1, ![512]⟩
abbrev S256x512 : Shape := ⟨2, ![256, 512]⟩
abbrev S1x512 : Shape := ⟨2, ![1, 512]⟩
abbrev S256x1x512 : Shape := ⟨3, ![256, 1, 512]⟩
abbrev S256x512x512 : Shape := ⟨3, ![256, 512, 512]⟩
abbrev S32x1x512 : Shape := ⟨3, ![32, 1, 512]⟩
abbrev S8x4x512x512 : Shape := ⟨4, ![8, 4, 512, 512]⟩
abbrev S8 : Shape := ⟨1, ![8]⟩
abbrev S32x512 : Shape := ⟨2, ![32, 512]⟩
abbrev S512x32 : Shape := ⟨2, ![512, 32]⟩
abbrev S8x512 : Shape := ⟨2, ![8, 512]⟩
abbrev S1 : Shape := ⟨1, ![1]⟩
abbrev S4x512x512 : Shape := ⟨3, ![4, 512, 512]⟩
abbrev S1x4x512x512 : Shape := ⟨4, ![1, 4, 512, 512]⟩
abbrev S512x1 : Shape := ⟨2, ![512, 1]⟩
abbrev S512x512 : Shape := ⟨2, ![512, 512]⟩
abbrev S1x1x512 : Shape := ⟨3, ![1, 1, 512]⟩
abbrev S1x1x1 : Shape := ⟨3, ![1, 1, 1]⟩
abbrev S1x1x8x512 : Shape := ⟨4, ![1, 1, 8, 512]⟩
abbrev S1x1x512x512 : Shape := ⟨4, ![1, 1, 512, 512]⟩

abbrev nBuf : Space → Nat
  | .hbm => 6
  | .vmem => 4
  | .smem => 0
  | _ => 0

abbrev bufTy : (tb : Table) → Fin (tcTables nBuf tb) → BufTy
  | .hbm, ⟨0, _⟩ => ⟨S_, .i32⟩
  | .hbm, ⟨1, _⟩ => ⟨S512, .f32⟩
  | .hbm, ⟨2, _⟩ => ⟨S256x512, .f32⟩
  | .hbm, ⟨3, _⟩ => ⟨S1x512, .f32⟩
  | .hbm, ⟨4, _⟩ => ⟨S256x1x512, .f32⟩
  | .hbm, ⟨5, _⟩ => ⟨S256x512x512, .f32⟩
  | .local _ .vmem, ⟨0, _⟩ => ⟨S1x512, .f32⟩
  | .local _ .vmem, ⟨1, _⟩ => ⟨S32x1x512, .f32⟩
  | .local _ .vmem, ⟨2, _⟩ => ⟨S32x1x512, .f32⟩
  | .local _ .vmem, ⟨3, _⟩ => ⟨S8x4x512x512, .f32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v10 : BitVec 1 := Scalar.cmpi .sgt arg0 c0_i32
  let v11 : BitVec 32 := Scalar.extui v10
  let c0_i32_4 : BitVec 32 := 0#32
  let v12 : BitVec 1 := Scalar.cmpi .ne v11 c0_i32_4
  v12

def k0_off1 (i : grid0.Coords) : Fin 3 → Nat :=
  let arg0 : BitVec 32 := BitVec.ofNat 32 (i 0).val
  let c1_i32_14520 : BitVec 32 := 1#32
  let v21277 : BitVec 32 := Scalar.subi arg0 c1_i32_14520
  let c8_i32_14521 : BitVec 32 := 8#32
  let v21278 : BitVec 32 := Scalar.muli v21277 c8_i32_14521
  let c0_i32_14522 : BitVec 32 := 0#32
  let v21279 : BitVec 32 := Scalar.addi v21278 c0_i32_14522
  let c4_i32_14523 : BitVec 32 := 4#32
  let v21280 : BitVec 32 := Scalar.muli v21279 c4_i32_14523
  let c0_i32_14526 : BitVec 32 := 0#32
  let c0_i32_14527 : BitVec 32 := 0#32
  ![v21280.toNat, 0, 0]
def k0_off2 (i : grid0.Coords) : Fin 3 → Nat :=
  let arg0 : BitVec 32 := BitVec.ofNat 32 (i 0).val
  let c8_i32_1695 : BitVec 32 := 8#32
  let v2660 : BitVec 32 := Scalar.muli arg0 c8_i32_1695
  let c0_i32_1696 : BitVec 32 := 0#32
  let v2661 : BitVec 32 := Scalar.addi v2660 c0_i32_1696
  let c4_i32_1697 : BitVec 32 := 4#32
  let v2662 : BitVec 32 := Scalar.muli v2661 c4_i32_1697
  let c0_i32_1700 : BitVec 32 := 0#32
  let c0_i32_1701 : BitVec 32 := 0#32
  ![v2662.toNat, 0, 0]
def k0_cond3 (i : grid0.Coords) : BitVec 1 :=
  let arg0 : BitVec 32 := BitVec.ofNat 32 (i 0).val
  let c0_i32_1705 : BitVec 32 := 0#32
  let v2668 : BitVec 1 := Scalar.cmpi .sgt arg0 c0_i32_1705
  let v2669 : BitVec 32 := Scalar.extui v2668
  let c0_i32_1706 : BitVec 32 := 0#32
  let v2670 : BitVec 1 := Scalar.cmpi .ne v2669 c0_i32_1706
  v2670

def k0_off3 (i : grid0.Coords) : Fin 3 → Nat :=
  let arg0 : BitVec 32 := BitVec.ofNat 32 (i 0).val
  let c1_i32_14520 : BitVec 32 := 1#32
  let v21277 : BitVec 32 := Scalar.subi arg0 c1_i32_14520
  let c8_i32_14521 : BitVec 32 := 8#32
  let v21278 : BitVec 32 := Scalar.muli v21277 c8_i32_14521
  let c1_i32_14522 : BitVec 32 := 1#32
  let v21279 : BitVec 32 := Scalar.addi v21278 c1_i32_14522
  let c4_i32_14523 : BitVec 32 := 4#32
  let v21280 : BitVec 32 := Scalar.muli v21279 c4_i32_14523
  let c0_i32_14526 : BitVec 32 := 0#32
  let c0_i32_14527 : BitVec 32 := 0#32
  ![v21280.toNat, 0, 0]
def k0_off4 (i : grid0.Coords) : Fin 3 → Nat :=
  let arg0 : BitVec 32 := BitVec.ofNat 32 (i 0).val
  let c8_i32_3526 : BitVec 32 := 8#32
  let v5318 : BitVec 32 := Scalar.muli arg0 c8_i32_3526
  let c1_i32_3527 : BitVec 32 := 1#32
  let v5319 : BitVec 32 := Scalar.addi v5318 c1_i32_3527
  let c4_i32_3528 : BitVec 32 := 4#32
  let v5320 : BitVec 32 := Scalar.muli v5319 c4_i32_3528
  let c0_i32_3531 : BitVec 32 := 0#32
  let c0_i32_3532 : BitVec 32 := 0#32
  ![v5320.toNat, 0, 0]
def k0_cond5 (i : grid0.Coords) : BitVec 1 :=
  let arg0 : BitVec 32 := BitVec.ofNat 32 (i 0).val
  let c0_i32_3536 : BitVec 32 := 0#32
  let v5326 : BitVec 1 := Scalar.cmpi .sgt arg0 c0_i32_3536
  let v5327 : BitVec 32 := Scalar.extui v5326
  let c0_i32_3537 : BitVec 32 := 0#32
  let v5328 : BitVec 1 := Scalar.cmpi .ne v5327 c0_i32_3537
  v5328

def k0_off5 (i : grid0.Coords) : Fin 3 → Nat :=
  let arg0 : BitVec 32 := BitVec.ofNat 32 (i 0).val
  let c1_i32_14520 : BitVec 32 := 1#32
  let v21277 : BitVec 32 := Scalar.subi arg0 c1_i32_14520
  let c8_i32_14521 : BitVec 32 := 8#32
  let v21278 : BitVec 32 := Scalar.muli v21277 c8_i32_14521
  let c2_i32_14522 : BitVec 32 := 2#32
  let v21279 : BitVec 32 := Scalar.addi v21278 c2_i32_14522
  let c4_i32_14523 : BitVec 32 := 4#32
  let v21280 : BitVec 32 := Scalar.muli v21279 c4_i32_14523
  let c0_i32_14526 : BitVec 32 := 0#32
  let c0_i32_14527 : BitVec 32 := 0#32
  ![v21280.toNat, 0, 0]
def k0_off6 (i : grid0.Coords) : Fin 3 → Nat :=
  let arg0 : BitVec 32 := BitVec.ofNat 32 (i 0).val
  let c8_i32_5357 : BitVec 32 := 8#32
  let v7976 : BitVec 32 := Scalar.muli arg0 c8_i32_5357
  let c2_i32_5358 : BitVec 32 := 2#32
  let v7977 : BitVec 32 := Scalar.addi v7976 c2_i32_5358
  let c4_i32_5359 : BitVec 32 := 4#32
  let v7978 : BitVec 32 := Scalar.muli v7977 c4_i32_5359
  let c0_i32_5362 : BitVec 32 := 0#32
  let c0_i32_5363 : BitVec 32 := 0#32
  ![v7978.toNat, 0, 0]
def k0_cond7 (i : grid0.Coords) : BitVec 1 :=
  let arg0 : BitVec 32 := BitVec.ofNat 32 (i 0).val
  let c0_i32_5367 : BitVec 32 := 0#32
  let v7984 : BitVec 1 := Scalar.cmpi .sgt arg0 c0_i32_5367
  let v7985 : BitVec 32 := Scalar.extui v7984
  let c0_i32_5368 : BitVec 32 := 0#32
  let v7986 : BitVec 1 := Scalar.cmpi .ne v7985 c0_i32_5368
  v7986

def k0_off7 (i : grid0.Coords) : Fin 3 → Nat :=
  let arg0 : BitVec 32 := BitVec.ofNat 32 (i 0).val
  let c1_i32_14520 : BitVec 32 := 1#32
  let v21277 : BitVec 32 := Scalar.subi arg0 c1_i32_14520
  let c8_i32_14521 : BitVec 32 := 8#32
  let v21278 : BitVec 32 := Scalar.muli v21277 c8_i32_14521
  let c3_i32_14522 : BitVec 32 := 3#32
  let v21279 : BitVec 32 := Scalar.addi v21278 c3_i32_14522
  let c4_i32_14523 : BitVec 32 := 4#32
  let v21280 : BitVec 32 := Scalar.muli v21279 c4_i32_14523
  let c0_i32_14526 : BitVec 32 := 0#32
  let c0_i32_14527 : BitVec 32 := 0#32
  ![v21280.toNat, 0, 0]
def k0_off8 (i : grid0.Coords) : Fin 3 → Nat :=
  let arg0 : BitVec 32 := BitVec.ofNat 32 (i 0).val
  let c8_i32_7188 : BitVec 32 := 8#32
  let v10634 : BitVec 32 := Scalar.muli arg0 c8_i32_7188
  let c3_i32_7189 : BitVec 32 := 3#32
  let v10635 : BitVec 32 := Scalar.addi v10634 c3_i32_7189
  let c4_i32_7190 : BitVec 32 := 4#32
  let v10636 : BitVec 32 := Scalar.muli v10635 c4_i32_7190
  let c0_i32_7193 : BitVec 32 := 0#32
  let c0_i32_7194 : BitVec 32 := 0#32
  ![v10636.toNat, 0, 0]
def k0_cond9 (i : grid0.Coords) : BitVec 1 :=
  let arg0 : BitVec 32 := BitVec.ofNat 32 (i 0).val
  let c0_i32_7198 : BitVec 32 := 0#32
  let v10642 : BitVec 1 := Scalar.cmpi .sgt arg0 c0_i32_7198
  let v10643 : BitVec 32 := Scalar.extui v10642
  let c0_i32_7199 : BitVec 32 := 0#32
  let v10644 : BitVec 1 := Scalar.cmpi .ne v10643 c0_i32_7199
  v10644

def k0_off9 (i : grid0.Coords) : Fin 3 → Nat :=
  let arg0 : BitVec 32 := BitVec.ofNat 32 (i 0).val
  let c1_i32_14520 : BitVec 32 := 1#32
  let v21277 : BitVec 32 := Scalar.subi arg0 c1_i32_14520
  let c8_i32_14521 : BitVec 32 := 8#32
  let v21278 : BitVec 32 := Scalar.muli v21277 c8_i32_14521
  let c4_i32_14522 : BitVec 32 := 4#32
  let v21279 : BitVec 32 := Scalar.addi v21278 c4_i32_14522
  let c4_i32_14523 : BitVec 32 := 4#32
  let v21280 : BitVec 32 := Scalar.muli v21279 c4_i32_14523
  let c0_i32_14526 : BitVec 32 := 0#32
  let c0_i32_14527 : BitVec 32 := 0#32
  ![v21280.toNat, 0, 0]
def k0_off10 (i : grid0.Coords) : Fin 3 → Nat :=
  let arg0 : BitVec 32 := BitVec.ofNat 32 (i 0).val
  let c8_i32_9018 : BitVec 32 := 8#32
  let v13292 : BitVec 32 := Scalar.muli arg0 c8_i32_9018
  let c4_i32_9019 : BitVec 32 := 4#32
  let v13293 : BitVec 32 := Scalar.addi v13292 c4_i32_9019
  let c4_i32_9020 : BitVec 32 := 4#32
  let v13294 : BitVec 32 := Scalar.muli v13293 c4_i32_9020
  let c0_i32_9023 : BitVec 32 := 0#32
  let c0_i32_9024 : BitVec 32 := 0#32
  ![v13294.toNat, 0, 0]
def k0_cond11 (i : grid0.Coords) : BitVec 1 :=
  let arg0 : BitVec 32 := BitVec.ofNat 32 (i 0).val
  let c0_i32_9028 : BitVec 32 := 0#32
  let v13300 : BitVec 1 := Scalar.cmpi .sgt arg0 c0_i32_9028
  let v13301 : BitVec 32 := Scalar.extui v13300
  let c0_i32_9029 : BitVec 32 := 0#32
  let v13302 : BitVec 1 := Scalar.cmpi .ne v13301 c0_i32_9029
  v13302

def k0_off11 (i : grid0.Coords) : Fin 3 → Nat :=
  let arg0 : BitVec 32 := BitVec.ofNat 32 (i 0).val
  let c1_i32_14520 : BitVec 32 := 1#32
  let v21277 : BitVec 32 := Scalar.subi arg0 c1_i32_14520
  let c8_i32_14521 : BitVec 32 := 8#32
  let v21278 : BitVec 32 := Scalar.muli v21277 c8_i32_14521
  let c5_i32_14522 : BitVec 32 := 5#32
  let v21279 : BitVec 32 := Scalar.addi v21278 c5_i32_14522
  let c4_i32_14523 : BitVec 32 := 4#32
  let v21280 : BitVec 32 := Scalar.muli v21279 c4_i32_14523
  let c0_i32_14526 : BitVec 32 := 0#32
  let c0_i32_14527 : BitVec 32 := 0#32
  ![v21280.toNat, 0, 0]
def k0_off12 (i : grid0.Coords) : Fin 3 → Nat :=
  let arg0 : BitVec 32 := BitVec.ofNat 32 (i 0).val
  let c8_i32_10848 : BitVec 32 := 8#32
  let v15950 : BitVec 32 := Scalar.muli arg0 c8_i32_10848
  let c5_i32_10849 : BitVec 32 := 5#32
  let v15951 : BitVec 32 := Scalar.addi v15950 c5_i32_10849
  let c4_i32_10850 : BitVec 32 := 4#32
  let v15952 : BitVec 32 := Scalar.muli v15951 c4_i32_10850
  let c0_i32_10853 : BitVec 32 := 0#32
  let c0_i32_10854 : BitVec 32 := 0#32
  ![v15952.toNat, 0, 0]
def k0_cond13 (i : grid0.Coords) : BitVec 1 :=
  let arg0 : BitVec 32 := BitVec.ofNat 32 (i 0).val
  let c0_i32_10858 : BitVec 32 := 0#32
  let v15958 : BitVec 1 := Scalar.cmpi .sgt arg0 c0_i32_10858
  let v15959 : BitVec 32 := Scalar.extui v15958
  let c0_i32_10859 : BitVec 32 := 0#32
  let v15960 : BitVec 1 := Scalar.cmpi .ne v15959 c0_i32_10859
  v15960

def k0_off13 (i : grid0.Coords) : Fin 3 → Nat :=
  let arg0 : BitVec 32 := BitVec.ofNat 32 (i 0).val
  let c1_i32_14520 : BitVec 32 := 1#32
  let v21277 : BitVec 32 := Scalar.subi arg0 c1_i32_14520
  let c8_i32_14521 : BitVec 32 := 8#32
  let v21278 : BitVec 32 := Scalar.muli v21277 c8_i32_14521
  let c6_i32_14522 : BitVec 32 := 6#32
  let v21279 : BitVec 32 := Scalar.addi v21278 c6_i32_14522
  let c4_i32_14523 : BitVec 32 := 4#32
  let v21280 : BitVec 32 := Scalar.muli v21279 c4_i32_14523
  let c0_i32_14526 : BitVec 32 := 0#32
  let c0_i32_14527 : BitVec 32 := 0#32
  ![v21280.toNat, 0, 0]
def k0_off14 (i : grid0.Coords) : Fin 3 → Nat :=
  let arg0 : BitVec 32 := BitVec.ofNat 32 (i 0).val
  let c8_i32_12678 : BitVec 32 := 8#32
  let v18608 : BitVec 32 := Scalar.muli arg0 c8_i32_12678
  let c6_i32_12679 : BitVec 32 := 6#32
  let v18609 : BitVec 32 := Scalar.addi v18608 c6_i32_12679
  let c4_i32_12680 : BitVec 32 := 4#32
  let v18610 : BitVec 32 := Scalar.muli v18609 c4_i32_12680
  let c0_i32_12683 : BitVec 32 := 0#32
  let c0_i32_12684 : BitVec 32 := 0#32
  ![v18610.toNat, 0, 0]
def k0_cond15 (i : grid0.Coords) : BitVec 1 :=
  let arg0 : BitVec 32 := BitVec.ofNat 32 (i 0).val
  let c0_i32_12688 : BitVec 32 := 0#32
  let v18616 : BitVec 1 := Scalar.cmpi .sgt arg0 c0_i32_12688
  let v18617 : BitVec 32 := Scalar.extui v18616
  let c0_i32_12689 : BitVec 32 := 0#32
  let v18618 : BitVec 1 := Scalar.cmpi .ne v18617 c0_i32_12689
  v18618

def k0_off15 (i : grid0.Coords) : Fin 3 → Nat :=
  let arg0 : BitVec 32 := BitVec.ofNat 32 (i 0).val
  let c1_i32_14520 : BitVec 32 := 1#32
  let v21277 : BitVec 32 := Scalar.subi arg0 c1_i32_14520
  let c8_i32_14521 : BitVec 32 := 8#32
  let v21278 : BitVec 32 := Scalar.muli v21277 c8_i32_14521
  let c7_i32_14522 : BitVec 32 := 7#32
  let v21279 : BitVec 32 := Scalar.addi v21278 c7_i32_14522
  let c4_i32_14523 : BitVec 32 := 4#32
  let v21280 : BitVec 32 := Scalar.muli v21279 c4_i32_14523
  let c0_i32_14526 : BitVec 32 := 0#32
  let c0_i32_14527 : BitVec 32 := 0#32
  ![v21280.toNat, 0, 0]
def k0_off16 (i : grid0.Coords) : Fin 3 → Nat :=
  let arg0 : BitVec 32 := BitVec.ofNat 32 (i 0).val
  let c8_i32_14508 : BitVec 32 := 8#32
  let v21266 : BitVec 32 := Scalar.muli arg0 c8_i32_14508
  let c7_i32_14509 : BitVec 32 := 7#32
  let v21267 : BitVec 32 := Scalar.addi v21266 c7_i32_14509
  let c4_i32_14510 : BitVec 32 := 4#32
  let v21268 : BitVec 32 := Scalar.muli v21267 c4_i32_14510
  let c0_i32_14513 : BitVec 32 := 0#32
  let c0_i32_14514 : BitVec 32 := 0#32
  ![v21268.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S32x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S_ : Shape := ⟨0, ![]⟩
abbrev S512 : Shape := ⟨1, ![512]⟩
abbrev S256x512 : Shape := ⟨2, ![256, 512]⟩
abbrev S1x512 : Shape := ⟨2, ![1, 512]⟩
abbrev S256x512x1 : Shape := ⟨3, ![256, 512, 1]⟩
abbrev S1x1x512 : Shape := ⟨3, ![1, 1, 512]⟩
abbrev S256x512x512 : Shape := ⟨3, ![256, 512, 512]⟩

abbrev nBuf : Space → Nat
  | .hbm => 15
  | .vmem => 0
  | .smem => 0
  | _ => 0

abbrev bufTy : (tb : Table) → Fin (tcTables nBuf tb) → BufTy
  | .hbm, ⟨0, _⟩ => ⟨S_, .i32⟩
  | .hbm, ⟨1, _⟩ => ⟨S512, .f32⟩
  | .hbm, ⟨2, _⟩ => ⟨S256x512, .f32⟩
  | .hbm, ⟨3, _⟩ => ⟨S1x512, .f32⟩
  | .hbm, ⟨4, _⟩ => ⟨S256x512, .f32⟩
  | .hbm, ⟨5, _⟩ => ⟨S256x512, .f32⟩
  | .hbm, ⟨6, _⟩ => ⟨S256x512, .i32⟩
  | .hbm, ⟨7, _⟩ => ⟨S256x512, .f32⟩
  | .hbm, ⟨8, _⟩ => ⟨S256x512, .i32⟩
  | .hbm, ⟨9, _⟩ => ⟨S256x512x1, .i32⟩
  | .hbm, ⟨10, _⟩ => ⟨S1x1x512, .i32⟩
  | .hbm, ⟨11, _⟩ => ⟨S256x512x512, .i32⟩
  | .hbm, ⟨12, _⟩ => ⟨S256x512x512, .i32⟩
  | .hbm, ⟨13, _⟩ => ⟨S256x512x512, .i1⟩
  | .hbm, ⟨14, _⟩ => ⟨S256x512x512, .f32⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1_0 : Ref sig .tc := ⟨.hbm, 7, rfl⟩
abbrev main_v3 : Ref sig .tc := ⟨.hbm, 8, rfl⟩
abbrev main_call1_v0 : Ref sig .tc := ⟨.hbm, 9, rfl⟩
abbrev main_call1_v1 : Ref sig .tc := ⟨.hbm, 10, rfl⟩
abbrev main_call1_v2 : Ref sig .tc := ⟨.hbm, 11, rfl⟩
abbrev main_call1_v3 : Ref sig .tc := ⟨.hbm, 12, rfl⟩
abbrev main_call1_v4 : Ref sig .tc := ⟨.hbm, 13, rfl⟩
abbrev main_v4 : Ref sig .tc := ⟨.hbm, 14, rfl⟩

abbrev nD : Nat := 1
abbrev τ : Topo := Topo.v7x

variable {F : FTy → Type} [FloatOps F]
-- ==== Proof.Steps.lean ====
/- The kernel's body as a sequence of numbered steps, and the values the steps compute. -/
module

public import proofs.«01_k».proof.Proof.Gen.KernelIdeal.Frame

@[expose] public section

set_option maxRecDepth 16384

noncomputable section

namespace Cert.KernelIdeal.Hand

open Idealize.ShloMosaic Idealize.ShloMosaic.TcCoe Idealize.ShloMosaic.Tactic
open Idealize.SL Idealize.SL.Sem
open Cert.KernelIdeal Cert.KernelIdeal.Gen

variable {F : FTy → Type} [FloatOps F]

/-! ## The values -/

/-- One sample's scores along a row: row `s` of the block's scores. -/
def rowOf (sc : FVec F S32x512 .f32) (s : Fin 32) : FVec F S1x512 .f32 :=
  extractStridedSlice S1x512 ![s.val, 0] sc (by revert s; decide)

/-- One sample's scores along a column: column `s` of the transposed scores. -/
def colOf (st : FVec F S512x32 .f32) (s : Fin 32) : FVec F S512x1 .f32 :=
  extractStridedSlice S512x1 ![0, s.val] st (by revert s; decide)

/-- The block's scores transposed. -/
def transposed (sc : FVec F S32x512 .f32) : FVec F S512x32 .f32 :=
  transpose S512x32 [1, 0] sc transposes_S32x512_p1_0_S512x32

/-- The row of ones the counting products multiply from the left. -/
def onesRow : FVec F S1x512 .f32 := broadcast S1x512 (Scalar.ofBits .f32 0x3F800000#32)

/-- The row numbers within a group of eight rows. -/
def iota8 : IVec S8x512 32 := iota .tc S8x512 32 [0] iota_S8x512_d0_w32

/-- Where sample `s`'s score of a row is strictly smaller than that of a column. -/
def lessThan (sc : FVec F S32x512 .f32) (s : Fin 32) : IVec S512x512 1 :=
  cmpf .olt (broadcastTo S512x512 (colOf (transposed sc) s) broadcasts_S512x1_S512x512)
    (broadcastTo S512x512 (rowOf sc s) broadcasts_S1x512_S512x512)

/-- For each column, how many scores of sample `s` are strictly smaller. -/
def fastRank (sc : FVec F S32x512 .f32) (s : Fin 32) : FVec F S1x512 .f32 :=
  matmul dot_S1x512_S512x512_S1x512_1_0_0_1_n_n none onesRow
    (select (lessThan sc s)
      (broadcast S512x512 (Scalar.ofBits .f32 0x3F800000#32)) (broadcast S512x512 (Scalar.ofBits .f32 0x00000000#32)))
    (constant S1x512 .f32 0x00000000#32)

/-- The sum of a row. -/
def rowSum (r : FVec F S1x512 .f32) : F .f32 :=
  extractAt ![0, 0, 0] (shapeCast S1x1x1 (multiReduction .add [1, 2] S1
    (shapeCast S1x1x512 r shapeCasts_S1x512_S1x1x512) 0x00000000#32 reduces_S1x1x512_S1 (.inl rfl) rfl)
    shapeCasts_S1_S1x1x1) inpos_S1x1x1_p0_0_0

/-- Sample `t` of slot `k`, as a row of the block. -/
def sampleOf (k : Fin 8) (t : Fin 4) : Fin 32 := ⟨4 * k.val + t.val, by omega⟩

/-- The running total of slot `k`'s strict counts, after `n` of its samples. -/
def totalUpTo (sc : FVec F S32x512 .f32) (k : Fin 8) : Nat → F .f32
  | 0 => Scalar.ofBits .f32 0x00000000#32
  | n + 1 => Scalar.addf (totalUpTo sc k n) (rowSum (fastRank sc ⟨(4 * k.val + n) % 32, Nat.mod_lt _ (by decide)⟩))

/-- The strict counts divided by eight. -/
def rankQ (sc : FVec F S32x512 .f32) (s : Fin 32) : IVec S1x512 32 :=
  shrui (fptosi 32 (fastRank sc s)) (broadcast S1x512 3#32)

/-- Where the strict count modulo eight is the row number. -/
def subHit (sc : FVec F S32x512 .f32) (s : Fin 32) : IVec S8x512 1 :=
  cmpi .eq iota8 (broadcastTo S8x512 (andi (fptosi 32 (fastRank sc s)) (broadcast S1x512 7#32)) broadcasts_S1x512_S8x512)

/-- Where both the remainder is the row number and the quotient `rq` is `q`. -/
def hitOf (sub : IVec S8x512 1) (rq : IVec S1x512 32) (q : Nat) : IVec S8x512 1 :=
  andi sub (broadcastTo S8x512 (cmpi .eq rq (broadcast S1x512 (BitVec.ofNat 32 q))) broadcasts_S1x512_S8x512)

/-- Ones where `x` holds and zeros elsewhere. -/
def onesAt (x : IVec S8x512 1) : FVec F S8x512 .f32 :=
  select x (broadcast S8x512 (Scalar.ofBits .f32 0x3F800000#32)) (broadcast S8x512 (Scalar.ofBits .f32 0x00000000#32))

/-- Where the strict count is `8 * q` plus the row number. -/
def hit (sc : FVec F S32x512 .f32) (s : Fin 32) (q : Nat) : IVec S8x512 1 := hitOf (subHit sc s) (rankQ sc s) q

/-- The eight rows the fast path stores for sample `s` at group `q`. -/
def fastRows (sc : FVec F S32x512 .f32) (s : Fin 32) (q : Nat) : FVec F S8x512 .f32 := onesAt (hit sc s q)

/-- The tie-broken counts of sample `s`: how many scores come before each column's. -/
def fullRank (sc : FVec F S32x512 .f32) (s : Fin 32) : FVec F S1x512 .f32 :=
  matmul dot_S1x512_S512x512_S1x512_1_0_0_1_n_n none onesRow
    (select (cmpf .ole (broadcastTo S512x512 (colOf (transposed sc) s) broadcasts_S512x1_S512x512)
        (broadcastTo S512x512 (rowOf sc s) broadcasts_S1x512_S512x512))
      (select (cmpf .oeq (broadcastTo S512x512 (colOf (transposed sc) s) broadcasts_S512x1_S512x512)
          (broadcastTo S512x512 (rowOf sc s) broadcasts_S1x512_S512x512))
        (select (cmpi .slt (iota .tc S512x512 32 [0] iota_S512x512_d0_w32) (iota .tc S512x512 32 [1] iota_S512x512_d1_w32))
          (broadcast S512x512 (Scalar.ofBits .f32 0x3F800000#32)) (broadcast S512x512 (Scalar.ofBits .f32 0x00000000#32)))
        (broadcast S512x512 (Scalar.ofBits .f32 0x3F800000#32)))
      (broadcast S512x512 (Scalar.ofBits .f32 0x00000000#32)))
    (constant S1x512 .f32 0x00000000#32)

/-- The whole matrix the patch stores for sample `s`. -/
def fullRows (sc : FVec F S32x512 .f32) (s : Fin 32) : FVec F S512x512 .f32 :=
  sitofp .f32 (extui 32 (cmpf .oeq (sitofp .f32 (iota .tc S512x512 32 [0] iota_S512x512_d0_w32))
    (broadcastTo S512x512 (fullRank sc s) broadcasts_S1x512_S512x512)) natLt_1_32)

/-- Whether a slot's total differs from the total without ties, as the kernel computes it. -/
def tieBit (tot : F .f32) : BitVec 1 :=
  Scalar.cmpi .ne (Scalar.extui (Scalar.cmpf .one tot (Scalar.ofBits .f32 0x48FF8000#32)) : BitVec 32) 0#32

/-- The block's scores from the two staged blocks. -/
def scores (g : Vec F S1x512 .f32) (z : Vec F S32x1x512 .f32) : FVec F S32x512 .f32 :=
  addf (broadcastTo S32x512 (shapeCast S1x512 g shapeCasts_S1x512_S1x512) broadcasts_S1x512_S32x512)
    (shapeCast S32x512 (shapeCast S32x1x512 z shapeCasts_S32x1x512_S32x1x512) shapeCasts_S32x1x512_S32x512)

/-! ## The places -/

/-- Eight rows of one sample of one slot. -/
def slabRect (k : Fin 8) (t : Fin 4) (q : Fin 64) : Rect S8x4x512x512 :=
  Rect.unit (s := S8x4x512x512) ![k.val, t.val, 8 * q.val, 0] S1x1x8x512.size (by
    intro a; have := k.isLt; have := t.isLt; have := q.isLt
    fin_cases a <;> simp <;> omega)

/-- One sample of one slot. -/
def sampleRect (k : Fin 8) (t : Fin 4) : Rect S8x4x512x512 :=
  Rect.unit (s := S8x4x512x512) ![k.val, t.val, 0, 0] S1x1x512x512.size (by
    intro a; have := k.isLt; have := t.isLt
    fin_cases a <;> simp <;> omega)

theorem slot_inb (k : Fin 8) : ∀ a, (![k.val, 0, 0, 0] : Fin 4 → Nat) a + S1x4x512x512.size a ≤ S8x4x512x512.size a := by
  intro a; have := k.isLt
  fin_cases a <;> simp <;> omega

/-- One slot of the scratch. -/
abbrev slotRef (arg4 : Memref sig .tc .vmem S8x4x512x512 .f32) (k : Fin 8) : Memref sig .tc .vmem S4x512x512 .f32 :=
  (arg4.slice (Rect.unit (s := S8x4x512x512) ![k.val, 0, 0, 0] S1x4x512x512.size (slot_inb k)) (fun _ => rfl)).squeeze
    S4x512x512 squeezes_S1x4x512x512_S4x512x512

theorem sem_inb (k : Fin 8) : ∀ a, (![k.val] : Fin 1 → Nat) a + S1.size a ≤ S8.size a := by
  intro a; have := k.isLt
  fin_cases a; simp; omega

/-- One slot's semaphore. -/
abbrev semRef (arg5 : DmaSems sig S8) (k : Fin 8) : DmaSems sig S_ :=
  (arg5.slice (Rect.unit (s := S8) ![k.val] S1.size (sem_inb k))).squeeze S_ squeezes_S1_S_

/-- Where slot `k`'s copy of point `i` goes, as the kernel computes it. -/
def outOff (i : grid0.Coords) (k : Fin 8) : Fin 3 → Nat :=
  ![(Scalar.muli (Scalar.addi (Scalar.muli (BitVec.ofNat 32 (i 0).val) 8#32) (BitVec.ofNat 32 k.val)) 4#32).toNat, 0, 0]

/-- Where slot `k`'s copy of the point before `i` went, as the kernel computes it. -/
def prevOff (i : grid0.Coords) (k : Fin 8) : Fin 3 → Nat :=
  ![(Scalar.muli (Scalar.addi (Scalar.muli (Scalar.subi (BitVec.ofNat 32 (i 0).val) 1#32) 8#32) (BitVec.ofNat 32 k.val)) 4#32).toNat, 0, 0]

/-- Whether there is a point before `i`, as the kernel computes it. -/
def laterBit (i : grid0.Coords) : BitVec 1 :=
  Scalar.cmpi .ne (Scalar.extui (Scalar.cmpi .sgt (BitVec.ofNat 32 (i 0).val) 0#32) : BitVec 32) 0#32

/-- Whether `i` is the last point, as the kernel computes it. -/
def lastBit (i : grid0.Coords) : BitVec 1 :=
  Scalar.cmpi .ne (Scalar.extui (Scalar.cmpi .eq (BitVec.ofNat 32 (i 0).val) 7#32) : BitVec 32) 0#32

theorem outOff_inb (i : grid0.Coords) (k : Fin 8) : ∀ a, outOff i k a + S4x512x512.size a ≤ S256x512x512.size a := by
  intro a
  have h : ∀ (n : Fin 8) (k : Fin 8), (Scalar.muli (Scalar.addi (Scalar.muli (BitVec.ofNat 32 n.val) 8#32) (BitVec.ofNat 32 k.val)) 4#32).toNat
      = 32 * n.val + 4 * k.val := by decide +kernel
  have h := h (i 0) k
  have := (i 0).isLt; have h8 : (i 0).val < 8 := this
  have := k.isLt
  fin_cases a
  · show (Scalar.muli (Scalar.addi (Scalar.muli (BitVec.ofNat 32 (i 0).val) 8#32) (BitVec.ofNat 32 k.val)) 4#32).toNat + 4 ≤ 256
    omega
  · exact Nat.le_refl 512
  · exact Nat.le_refl 512

theorem prevOff_inb (i : grid0.Coords) (h : laterBit i = 1#1) (k : Fin 8) : ∀ a, prevOff i k a + S4x512x512.size a ≤ S256x512x512.size a := by
  intro a
  have hh : ∀ (n : Fin 8) (k : Fin 8), (Scalar.cmpi .ne (Scalar.extui (Scalar.cmpi .sgt (BitVec.ofNat 32 n.val) 0#32) : BitVec 32) 0#32) = 1#1 →
      (Scalar.muli (Scalar.addi (Scalar.muli (Scalar.subi (BitVec.ofNat 32 n.val) 1#32) 8#32) (BitVec.ofNat 32 k.val)) 4#32).toNat
      = 32 * (n.val - 1) + 4 * k.val := by decide +kernel
  have hh := hh (i 0) k h
  have := (i 0).isLt; have h8 : (i 0).val < 8 := this
  have := k.isLt
  fin_cases a
  · show (Scalar.muli (Scalar.addi (Scalar.muli (Scalar.subi (BitVec.ofNat 32 (i 0).val) 1#32) 8#32) (BitVec.ofNat 32 k.val)) 4#32).toNat + 4 ≤ 256
    omega
  · exact Nat.le_refl 512
  · exact Nat.le_refl 512

theorem first_inb : ∀ a, (![0, 0, 0] : Fin 3 → Nat) a + S4x512x512.size a ≤ S256x512x512.size a := by decide

/-- Four samples of the result, from the offset `o`. -/
abbrev outRef (arg3 : Memref sig .tc .hbm S256x512x512 .f32) (o : Fin 3 → Nat) (h : ∀ a, o a + S4x512x512.size a ≤ S256x512x512.size a) :
    Memref sig .tc .hbm S4x512x512 .f32 :=
  arg3.slice (Rect.unit (s := S256x512x512) o S4x512x512.size h) (fun _ => rfl)

/-! ## The steps -/

/-- The kernel's programs. -/
abbrev KProg (F : FTy → Type) (α : Type) := Prog (TpuEff nD τ sig (Elt F) Λ₀ .tc) α

section
variable (i : grid0.Coords) (arg3 : Memref sig .tc .hbm S256x512x512 .f32) (arg4 : Memref sig .tc .vmem S8x4x512x512 .f32)
  (arg5 : DmaSems sig S8)

/-- The wait for a slot's copy whose place begins at the offset `o`. -/
def waitAt (o : Fin 3 → Nat) (h : ∀ a, o a + S4x512x512.size a ≤ S256x512x512.size a) (k : Fin 8) : KProg F PUnit :=
  Prog.lift (.waitDma2 (semRef arg5 k).sem (slotRef arg4 k) (outRef arg3 o h) ((View.wordExact_bits rfl).reshape _ _) (View.wordExact_bits rfl))

/-- The wait for slot `k`'s copy of the point before, past the first point. -/
def waitStep (k : Fin 8) : KProg F PUnit :=
  if h : laterBit i = 1#1 then waitAt arg3 arg4 arg5 (prevOff i k) (prevOff_inb i h k) k else pure ⟨⟩

/-- The load before a store of eight rows; its value is not used. -/
def loadSlab (k : Fin 8) (t : Fin 4) (q : Fin 64) : KProg F (Vec F S1x1x8x512 .f32) :=
  Prog.lift (.load arg4 (slabRect k t q).toLoadRect (View.loadsAt_vmem h_S1x1x8x512))

/-- The store of eight rows. -/
def storeSlab (k : Fin 8) (t : Fin 4) (q : Fin 64) (x : FVec F S8x512 .f32) : KProg F PUnit :=
  Prog.lift (.store arg4 (slabRect k t q) (shapeCast S1x1x8x512 x shapeCasts_S8x512_S1x1x8x512)
    Finset.univ (View.stores_vmem_bits_univ h_S1x1x8x512 rfl) (.inl rfl))

/-- The load and the store of eight rows. -/
def putSlab (k : Fin 8) (t : Fin 4) (q : Fin 64) (x : FVec F S8x512 .f32) : KProg F PUnit := do
  let _ ← loadSlab arg4 k t q
  storeSlab arg4 k t q x

/-- The load and the store of one sample's whole matrix. -/
def patchOne (sc : FVec F S32x512 .f32) (k : Fin 8) (t : Fin 4) : KProg F PUnit := do
  let _ ← Prog.lift (.load arg4 (sampleRect k t).toLoadRect (View.loadsAt_vmem h_S1x1x512x512))
  Prog.lift (.store arg4 (sampleRect k t) (shapeCast S1x1x512x512 (fullRows sc (sampleOf k t)) shapeCasts_S512x512_S1x1x512x512)
    Finset.univ (View.stores_vmem_bits_univ h_S1x1x512x512 rfl) (.inl rfl))

/-- The patch of slot `k`. -/
def patchAll (sc : FVec F S32x512 .f32) (k : Fin 8) : KProg F PUnit := do
  patchOne arg4 sc k 0
  patchOne arg4 sc k 1
  patchOne arg4 sc k 2
  patchOne arg4 sc k 3

/-- The patch of slot `k`, taken when its total `tot` shows a tie. -/
def patchStep (sc : FVec F S32x512 .f32) (k : Fin 8) (tot : F .f32) : KProg F PUnit :=
  if tieBit tot = 1#1 then patchAll arg4 sc k else pure ⟨⟩

/-- The start of slot `k`'s copy out. -/
def startStep (k : Fin 8) : KProg F PUnit :=
  Prog.lift (.enqueueDma (slotRef arg4 k) (.here (outRef arg3 (outOff i k) (outOff_inb i k))) (.dma (semRef arg5 k).sem)
    ((View.wordExact_bits rfl).reshape _ _) (View.wordExact_bits rfl) ⟨Or.inl rfl, trivial⟩)

/-- The waits of the last point for its own copies. -/
def drainAll : KProg F PUnit := do
  waitAt arg3 arg4 arg5 ![0, 0, 0] first_inb 0
  waitAt arg3 arg4 arg5 ![0, 0, 0] first_inb 1
  waitAt arg3 arg4 arg5 ![0, 0, 0] first_inb 2
  waitAt arg3 arg4 arg5 ![0, 0, 0] first_inb 3
  waitAt arg3 arg4 arg5 ![0, 0, 0] first_inb 4
  waitAt arg3 arg4 arg5 ![0, 0, 0] first_inb 5
  waitAt arg3 arg4 arg5 ![0, 0, 0] first_inb 6
  waitAt arg3 arg4 arg5 ![0, 0, 0] first_inb 7

/-- The waits at the end, taken at the last point. -/
def drainStep : KProg F PUnit :=
  if lastBit i = 1#1 then drainAll arg3 arg4 arg5 else pure ⟨⟩

/-- The loads and stores of a slot's fast path, by number: step `2 j` loads and step `2 j + 1` stores the `j`-th group of
    rows, the groups of a sample one after the other. -/
def slabStep (sc : FVec F S32x512 .f32) (k : Fin 8) (r : Nat) : KProg F PUnit :=
  let t : Fin 4 := ⟨r / 128 % 4, Nat.mod_lt _ (by decide)⟩
  let q : Fin 64 := ⟨r / 2 % 64, Nat.mod_lt _ (by decide)⟩
  match r % 2 with
  | 0 => do let _ ← loadSlab arg4 k t q; pure ⟨⟩
  | _ + 1 => storeSlab arg4 k t q (fastRows sc (sampleOf k t) q.val)

/-- The `n` steps of slot `k`'s fast path from step `r`. -/
def slabs (sc : FVec F S32x512 .f32) (k : Fin 8) : Nat → Nat → KProg F PUnit
  | _, 0 => pure ⟨⟩
  | r, n + 1 => do slabStep arg4 sc k r; slabs sc k (r + 1) n

/-- One slot: the wait for its copy of the point before, its fast path, the patch, and the start of its copy. -/
def slotProg (sc : FVec F S32x512 .f32) (k : Fin 8) : KProg F PUnit := do
  waitStep i arg3 arg4 arg5 k
  slabs arg4 sc k 0 512
  patchStep arg4 sc k (totalUpTo sc k 4)
  startStep i arg3 arg4 arg5 k

/-- The slots from `k` on, `n` of them. -/
def slotsFrom (sc : FVec F S32x512 .f32) : Nat → Nat → KProg F PUnit
  | _, 0 => pure ⟨⟩
  | k, n + 1 => do slotProg i arg3 arg4 arg5 sc ⟨k % 8, Nat.mod_lt _ (by decide)⟩; slotsFrom sc (k + 1) n

/-- The body: the two loads, the eight slots, the waits at the last point. -/
def bodyProg (arg1 : Memref sig .tc .vmem S1x512 .f32) (arg2 : Memref sig .tc .vmem S32x1x512 .f32) : KProg F PUnit := do
  let g ← Prog.lift (.load arg1 (Rect.unit (s := S1x512) ![0, 0] S1x512.size inb_S1x512_S1x512_0_0).toLoadRect (View.loadsAt_vmem h_S1x512))
  let z ← Prog.lift (.load arg2 (Rect.unit (s := S32x1x512) ![0, 0, 0] S32x1x512.size inb_S32x1x512_S32x1x512_0_0_0).toLoadRect (View.loadsAt_vmem h_S32x1x512))
  slotsFrom i arg3 arg4 arg5 (scores g z) 0 8
  drainStep i arg3 arg4 arg5

end

end Cert.KernelIdeal.Hand
end
-- ==== Proof.Places.lean ====
/- Which elements the slots, the groups of rows and the copies' places hold, and what reading and writing them does. -/
module

public import proofs.«01_k».proof.Proof.Steps
public import Idealize.ShloMosaic.Lib.Pointwise

@[expose] public section

set_option maxRecDepth 16384

noncomputable section

namespace Cert.KernelIdeal.Hand

open Idealize.ShloMosaic Idealize.ShloMosaic.TcCoe Idealize.ShloMosaic.Tactic
open Idealize.SL Idealize.SL.Sem
open Cert.KernelIdeal Cert.KernelIdeal.Gen

variable {F : FTy → Type} [FloatOps F]

/-- The scratch, whole. -/
abbrev scratchRef : Memref sig .tc .vmem S8x4x512x512 .f32 := Memref.whole cc0_scratch0
/-- The result, whole. -/
abbrev resultRef : Memref sig .tc .hbm S256x512x512 .f32 := Memref.whole main_v2

/-- What the scratch may hold. -/
abbrev Scratch (F : FTy → Type) [FloatOps F] := S8x4x512x512.Idx → F .f32
/-- What the result may hold. -/
abbrev Result (F : FTy → Type) [FloatOps F] := S256x512x512.Idx → F .f32

/-- Where a coordinate of a unit rectangle sits. -/
theorem unit_emb_val {s : Shape} (off size : Fin s.rank → Nat) (inb) (x : (Rect.unit (s := s) off size inb).shape.Idx) (a : Fin s.rank) :
    ((Rect.unit (s := s) off size inb).emb x a).val = off a + (x a).val := by
  show off a + 1 * (x a).val = _
  rw [Nat.one_mul]

/-- The elements of slot `k`. -/
def slotSet (k : Fin 8) : Finset S8x4x512x512.Idx := Finset.univ.filter fun j => (j 0).val = k.val

theorem mem_slotSet {k : Fin 8} {j : S8x4x512x512.Idx} : j ∈ slotSet k ↔ (j 0).val = k.val := by
  simp [slotSet]

/-- The elements of the result that slot `k`'s copies write. -/
def colSet (k : Fin 8) : Finset S256x512x512.Idx := Finset.univ.filter fun j => (j 0).val / 4 % 8 = k.val

theorem mem_colSet {k : Fin 8} {j : S256x512x512.Idx} : j ∈ colSet k ↔ (j 0).val / 4 % 8 = k.val := by
  simp [colSet]

/-- A slot's view holds the slot's elements. -/
theorem slotRef_set (k : Fin 8) : (slotRef scratchRef k).view.set = slotSet k := by
  have h : (slotRef scratchRef k).view.set
      = (Rect.unit (s := S8x4x512x512) ![k.val, 0, 0, 0] S1x4x512x512.size (slot_inb k)).set :=
    (View.set_reshape _ _).trans (View.set_slice_whole _ _)
  rw [h]; ext j
  rw [Rect.mem_set_unit, mem_slotSet]
  idx_vars j
  constructor
  · intro h; have := h 0; simp at this ⊢; omega
  · intro h; simp at h
    intro x; fin_cases x <;> simp <;> omega

/-- Which elements a group of eight rows holds. -/
theorem mem_slab {k : Fin 8} {t : Fin 4} {q : Fin 64} {j : S8x4x512x512.Idx} :
    j ∈ (slabRect k t q).set ↔ (j 0).val = k.val ∧ (j 1).val = t.val ∧ (j 2).val / 8 = q.val := by
  unfold slabRect
  rw [Rect.mem_set_unit]
  idx_vars j
  constructor
  · intro h; have h0 := h 0; have h1 := h 1; have h2 := h 2; simp at h0 h1 h2 ⊢; omega
  · intro h; simp at h
    intro x; fin_cases x <;> simp <;> omega

/-- Which elements one sample of one slot holds. -/
theorem mem_sample {k : Fin 8} {t : Fin 4} {j : S8x4x512x512.Idx} :
    j ∈ (sampleRect k t).set ↔ (j 0).val = k.val ∧ (j 1).val = t.val := by
  unfold sampleRect
  rw [Rect.mem_set_unit]
  idx_vars j
  constructor
  · intro h; have h0 := h 0; have h1 := h 1; simp at h0 h1 ⊢; omega
  · intro h; simp at h
    intro x; fin_cases x <;> simp <;> omega

theorem slab_set (k : Fin 8) (t : Fin 4) (q : Fin 64) : (scratchRef.access (slabRect k t q)).set = (slabRect k t q).set :=
  View.set_slice_whole _ _

theorem sample_set (k : Fin 8) (t : Fin 4) : (scratchRef.access (sampleRect k t)).set = (sampleRect k t).set :=
  View.set_slice_whole _ _

/-- A store of eight rows leaves those rows in the scratch. -/
theorem write_slab (f : Scratch F) (k : Fin 8) (t : Fin 4) (q : Fin 64) (x : FVec F S8x512 .f32)
    (k' : Fin 8) (t' : Fin 4) (a b : Fin 512) :
    (scratchRef.access (slabRect k t q)).write (Elt F) f (shapeCast S1x1x8x512 x shapeCasts_S8x512_S1x1x8x512) Finset.univ (ix4 k' t' a b)
      = if k' = k ∧ t' = t ∧ a.val / 8 = q.val then x (ix2 ⟨a.val % 8, Nat.mod_lt _ (by decide)⟩ b) else f (ix4 k' t' a b) := by
  split
  · next h =>
    obtain ⟨rfl, rfl, h⟩ := h
    have he : (ix4 k' t' a b : S8x4x512x512.Idx) = (scratchRef.access (slabRect k' t' q)).emb
        (ix4 0 0 ⟨a.val % 8, Nat.mod_lt _ (by decide)⟩ b : S1x1x8x512.Idx) := by
      show _ = (slabRect k' t' q).emb _
      funext x
      apply Fin.ext
      unfold slabRect
      fin_cases x <;> rw [unit_emb_val] <;> simp <;> omega
    refine (congrArg _ he).trans ((View.write_emb_of_mem _ _ (Finset.mem_univ _)).trans ?_)
    show shapeCast S1x1x8x512 x shapeCasts_S8x512_S1x1x8x512 (ix4 0 0 ⟨a.val % 8, Nat.mod_lt _ (by decide)⟩ b) = _
    pointwise
  · next h =>
    apply View.write_of_not_mem
    rw [View.setOn_univ, slab_set, mem_slab]
    simp only [ix4_0, ix4_1, ix4_2]
    rintro ⟨h0, h1, h2⟩
    exact h ⟨Fin.ext h0, Fin.ext h1, h2⟩

/-- A store of one sample's matrix leaves it in the scratch. -/
theorem write_sample (f : Scratch F) (k : Fin 8) (t : Fin 4) (x : FVec F S512x512 .f32)
    (k' : Fin 8) (t' : Fin 4) (a b : Fin 512) :
    (scratchRef.access (sampleRect k t)).write (Elt F) f (shapeCast S1x1x512x512 x shapeCasts_S512x512_S1x1x512x512) Finset.univ (ix4 k' t' a b)
      = if k' = k ∧ t' = t then x (ix2 a b) else f (ix4 k' t' a b) := by
  split
  · next h =>
    obtain ⟨rfl, rfl⟩ := h
    have he : (ix4 k' t' a b : S8x4x512x512.Idx) = (scratchRef.access (sampleRect k' t')).emb
        (ix4 0 0 a b : S1x1x512x512.Idx) := by
      show _ = (sampleRect k' t').emb _
      funext x
      apply Fin.ext
      unfold sampleRect
      fin_cases x <;> rw [unit_emb_val] <;> simp
    refine (congrArg _ he).trans ((View.write_emb_of_mem _ _ (Finset.mem_univ _)).trans ?_)
    show shapeCast S1x1x512x512 x shapeCasts_S512x512_S1x1x512x512 (ix4 0 0 a b) = _
    pointwise
  · next h =>
    apply View.write_of_not_mem
    rw [View.setOn_univ, sample_set, mem_sample]
    simp only [ix4_0, ix4_1]
    rintro ⟨h0, h1⟩
    exact h ⟨Fin.ext h0, Fin.ext h1⟩

/-- A slot's view reads the slot's elements of the scratch. -/
theorem read_slot (f : Scratch F) (k : Fin 8) (t : Fin 4) (a b : Fin 512) :
    (slotRef scratchRef k).view.read (Elt F) f (ix3 t a b) = f (ix4 k t a b) := by
  rw [View.read_apply]
  show f ((slotRef scratchRef k).view.emb (ix3 t a b)) = _
  congr 1
  show (Rect.unit (s := S8x4x512x512) ![k.val, 0, 0, 0] S1x4x512x512.size (slot_inb k)).emb (Shape.reshapeEquiv _ (ix3 t a b : S4x512x512.Idx)) = _
  have hr : Shape.reshapeEquiv (squeezes_S1x4x512x512_S4x512x512).numel_eq (ix3 t a b : S4x512x512.Idx) = (ix4 0 t a b : S1x4x512x512.Idx) := by
    pointwise
  refine (congrArg _ hr).trans ?_
  funext x
  apply Fin.ext
  fin_cases x <;> rw [unit_emb_val] <;> simp

theorem outOff_val (i : grid0.Coords) (k : Fin 8) : outOff i k 0 = 32 * (i 0).val + 4 * k.val := by
  have h : ∀ (n : Fin 8) (k : Fin 8), (Scalar.muli (Scalar.addi (Scalar.muli (BitVec.ofNat 32 n.val) 8#32) (BitVec.ofNat 32 k.val)) 4#32).toNat
      = 32 * n.val + 4 * k.val := by decide +kernel
  exact h (i 0) k

/-- Which elements of the result a copy's place holds. -/
theorem mem_out {i : grid0.Coords} {k : Fin 8} {j : S256x512x512.Idx} :
    j ∈ (outRef resultRef (outOff i k) (outOff_inb i k)).view.set ↔ (j 0).val / 4 = 8 * (i 0).val + k.val := by
  have h : (outRef resultRef (outOff i k) (outOff_inb i k)).view.set = (Rect.unit (s := S256x512x512) (outOff i k) S4x512x512.size (outOff_inb i k)).set :=
    View.set_slice_whole _ _
  rw [h, Rect.mem_set_unit]
  have hv := outOff_val i k
  have h1 : outOff i k 1 = 0 := rfl
  have h2 : outOff i k 2 = 0 := rfl
  idx_vars j
  constructor
  · intro h; have h0 := h 0; simp [hv] at h0 ⊢; omega
  · intro h; simp at h
    intro x; fin_cases x <;> simp [hv, h1, h2] <;> omega

/-- A copy's place lies among those of its slot. -/
theorem out_subset (i : grid0.Coords) (k : Fin 8) : (outRef resultRef (outOff i k) (outOff_inb i k)).view.set ⊆ colSet k := by
  intro j h
  rw [mem_out] at h
  rw [mem_colSet]
  have := k.isLt
  omega

/-- A copy leaves its four samples in the result. -/
theorem write_out (f : Result F) (i : grid0.Coords) (k : Fin 8) (x : FVec F S4x512x512 .f32) (n : Fin 256) (a b : Fin 512) :
    (outRef resultRef (outOff i k) (outOff_inb i k)).view.write (Elt F) f x Finset.univ (ix3 n a b)
      = if n.val / 4 = 8 * (i 0).val + k.val then x (ix3 ⟨n.val % 4, Nat.mod_lt _ (by decide)⟩ a b) else f (ix3 n a b) := by
  split
  · next h =>
    have hv := outOff_val i k
    have h1 : outOff i k 1 = 0 := rfl
    have h2 : outOff i k 2 = 0 := rfl
    have he : (ix3 n a b : S256x512x512.Idx) = (outRef resultRef (outOff i k) (outOff_inb i k)).view.emb
        (ix3 ⟨n.val % 4, Nat.mod_lt _ (by decide)⟩ a b : S4x512x512.Idx) := by
      show _ = (Rect.unit (s := S256x512x512) (outOff i k) S4x512x512.size (outOff_inb i k)).emb _
      funext x
      apply Fin.ext
      fin_cases x <;> rw [unit_emb_val] <;> simp [hv, h1, h2] <;> omega
    rw [he, View.write_emb_of_mem _ _ (Finset.mem_univ _)]
    rfl
  · next h =>
    apply View.write_of_not_mem
    rw [View.setOn_univ, mem_out]
    simpa using h

end Cert.KernelIdeal.Hand
end
-- ==== Proof.Slots.lean ====
/- What the body's steps do to one slot: its rows in the scratch, its semaphore and its copies into the result. -/
module

public import proofs.«01_k».proof.Proof.Places
public import Idealize.ShloMosaic.Lib.Pipeline.Routed

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (Pipeline.UC sig nD τ) ℕ

/-! ## What a slot is to hold -/

/-- What sample `t` of slot `k` is to hold at row `a` and column `b`: the tie-broken matrix when the slot's total shows
    a tie, the fast path's rows otherwise. -/
def sampleOut (sc : FVec F S32x512 .f32) (k : Fin 8) (t : Fin 4) (a b : Fin 512) : F .f32 :=
  if tieBit (totalUpTo sc k 4) = 1#1 then fullRows sc (sampleOf k t) (ix2 a b)
  else fastRows sc (sampleOf k t) (a.val / 8) (ix2 ⟨a.val % 8, Nat.mod_lt _ (by decide)⟩ b)

/-- The result when every point's scores are `scs`. -/
def finalOut (scs : Fin 8 → FVec F S32x512 .f32) : Result F := fun j =>
  sampleOut (scs ⟨(j 0).val / 32, by have h : (j 0).val < 256 := (j 0).isLt; omega⟩) ⟨(j 0).val / 4 % 8, by omega⟩
    ⟨(j 0).val % 4, by omega⟩ (j 1) (j 2)

/-- The result after `n` points have copied their samples over `v`. -/
def mix (v : Result F) (scs : Fin 8 → FVec F S32x512 .f32) (n : Nat) : Result F := fun j =>
  if (j 0).val < 32 * n then finalOut scs j else v j

theorem mix_zero (v : Result F) (scs : Fin 8 → FVec F S32x512 .f32) : mix v scs 0 = v := by
  funext j; unfold mix; rw [if_neg (by omega)]

theorem mix_all (v : Result F) (scs : Fin 8 → FVec F S32x512 .f32) : mix v scs 8 = finalOut scs := by
  funext j; unfold mix; rw [if_pos]; have h : (j 0).val < 256 := (j 0).isLt; omega

/-- The first `n` groups of rows of slot `k` hold the fast path's rows. -/
def FilledTo (sc : FVec F S32x512 .f32) (k : Fin 8) (n : Nat) (f : Scratch F) : Prop :=
  ∀ (t : Fin 4) (a b : Fin 512), 64 * t.val + a.val / 8 < n →
    f (ix4 k t a b) = fastRows sc (sampleOf k t) (a.val / 8) (ix2 ⟨a.val % 8, Nat.mod_lt _ (by decide)⟩ b)

/-- Slot `k` holds what it is to hold. -/
def Holds (sc : FVec F S32x512 .f32) (k : Fin 8) (f : Scratch F) : Prop :=
  ∀ (t : Fin 4) (a b : Fin 512), f (ix4 k t a b) = sampleOut sc k t a b

/-! ## The assertions -/

section
variable (c : Dev nD)

/-- The weakest precondition of one of the kernel's programs on core `c`. -/
abbrev wpK {α : Type} (p : KProg F α) (Q : α → sProp 𝕄) : sProp 𝕄 :=
  wp frame (wpE (defs₀ (F := F)) Variants.none (c : Thread nD τ) none) Set.univ p Q

/-- A program and then another. -/
theorem wpK_bind {α β : Type} {p : KProg F α} {k : α → KProg F β} {P : sProp 𝕄} {R : α → sProp 𝕄} {Q : β → sProp 𝕄}
    (h1 : P ⊢ wpK c p R) (h2 : ∀ a, R a ⊢ wpK c (k a) Q) : P ⊢ wpK c (p >>= k) Q :=
  (h1.trans (wp_mono _ _ _ h2)).trans (Entails.of_eq (wp_bind _ _ _ _ _ _).symm)

/-- A program's postcondition weakened. -/
theorem wpK_mono {α : Type} {p : KProg F α} {P : sProp 𝕄} {R Q : α → sProp 𝕄}
    (h1 : P ⊢ wpK c p R) (h2 : ∀ a, R a ⊢ Q a) : P ⊢ wpK c p Q :=
  h1.trans (wp_mono _ _ _ h2)

/-- A program that returns. -/
theorem wpK_pure {α : Type} {a : α} {P : sProp 𝕄} {Q : α → sProp 𝕄} (h : P ⊢ Q a) : P ⊢ wpK c (pure a : KProg F α) Q :=
  h.trans (le_wp_ret _ _ _ _ _)

/-- Contents with a property, taken out. -/
theorem holding_elim {φ : Scratch F → Prop} {P : Scratch F → sProp 𝕄} {R : sProp 𝕄} (h : ∀ f, φ f → (P f ⊢ R)) :
    iprop(∃ f, ⌜φ f⌝ ∗ P f) ⊢ R := by
  iintro ⟨%f, %hf, H⟩
  iapply (h f hf) $$ H

/-- What a program does not touch is kept. -/
theorem wpK_frame {α : Type} {p : KProg F α} {P R : sProp 𝕄} {Q : α → sProp 𝕄} (h : P ⊢ wpK c p Q) :
    iprop(P ∗ R) ⊢ wpK c p (fun a => iprop(Q a ∗ R)) := by
  refine BIBase.Entails.trans ?_ (wp_frame_r _ _ _)
  iintro ⟨HP, HR⟩
  isplitl [HP]
  · iapply h $$ HP
  · iexact HR

/-- Slot `k` of the scratch, held at contents `f`. -/
def slotAt (k : Fin 8) (f : Scratch F) : sProp 𝕄 :=
  ((c : Thread nD τ).loc cc0_scratch0) ↦[slotSet k]{fullShare} f

/-- Slot `k`'s part of the result, held at contents `f`. -/
def colAt (k : Fin 8) (f : Result F) : sProp 𝕄 :=
  ((c : Thread nD τ).loc main_v2) ↦[colSet k]{fullShare} f

/-- Slot `k`'s semaphore. -/
abbrev semLoc (k : Fin 8) : SemLoc sig := .dma (semRef cc0_scratch1 k).sem

/-- What one copy adds to its semaphore. -/
def copyCredit : Nat := (outRef resultRef ![0, 0, 0] first_inb).view.dmaCredit

variable (v : Result F) (scs : Fin 8 → FVec F S32x512 .f32)

/-- Slot `k` with no copy pending, `n` points' copies done. -/
def idle (n : Nat) (k : Fin 8) : sProp 𝕄 :=
  iprop(semVal ((c : Thread nD τ), semLoc k) 0 ∗ colAt c k (mix v scs n) ∗ ∃ f, slotAt c k f)

/-- Slot `k` with the copy of the `n`-th point pending. -/
def busy (n : Nat) (k : Fin 8) : sProp 𝕄 :=
  Transfers.Flight (Lvl := ℕ) (countersEmb (U := Pipeline.UC sig nD τ)) (c : Thread nD τ) (semLoc k) () copyCredit
    iprop(colAt c k (mix v scs n) ∗ ∃ f, slotAt c k f)

/-- The core owes nothing, whatever it has waited for. -/
def owesNothing : sProp 𝕄 := iprop(∃ W, owes (c : Thread nD τ) 0 W)

/-! ## The fast path -/

theorem setOn_scratch (S : Finset S8x4x512x512.Idx) : scratchRef.view.setOn S = S := Finset.map_refl

theorem slab_subset (k : Fin 8) (t : Fin 4) (q : Fin 64) : (slabRect k t q).set ⊆ slotSet k := fun j h =>
  mem_slotSet.mpr (mem_slab.mp h).1

theorem sample_subset (k : Fin 8) (t : Fin 4) : (sampleRect k t).set ⊆ slotSet k := fun j h =>
  mem_slotSet.mpr (mem_sample.mp h).1

/-- The load before a store of eight rows leaves the slot as it was. -/
theorem wp_loadSlab (k : Fin 8) (t : Fin 4) (q : Fin 64) (f : Scratch F) :
    slotAt c k f ⊢ wpK c (loadSlab scratchRef k t q) (fun _ => slotAt c k f) := by
  unfold slotAt loadSlab Prog.lift
  have hS : scratchRef.view.setOn (slabRect k t q).set ⊆ slotSet k := by rw [setOn_scratch]; exact slab_subset k t q
  iintro H
  iapply (wp_load Variants.none (c : Thread nD τ) none Set.univ (m := scratchRef) (S := slotSet k) (f := f) hS) $$ H
  iintro H
  iapply le_wp_ret
  iexact H

/-- The store of eight rows. -/
theorem wp_storeSlab (k : Fin 8) (t : Fin 4) (q : Fin 64) (x : FVec F S8x512 .f32) (f : Scratch F) :
    slotAt c k f ⊢ wpK c (storeSlab scratchRef k t q x) (fun _ => slotAt c k
      ((scratchRef.access (slabRect k t q)).write (Elt F) f (shapeCast S1x1x8x512 x shapeCasts_S8x512_S1x1x8x512) Finset.univ)) := by
  unfold slotAt storeSlab Prog.lift
  have hS : (scratchRef.access (slabRect k t q)).setOn Finset.univ ⊆ slotSet k := by
    rw [View.setOn_univ, slab_set]; exact slab_subset k t q
  iintro H
  iapply (wp_store Variants.none (c : Thread nD τ) none Set.univ (m := scratchRef) (r := slabRect k t q)
    (w := shapeCast S1x1x8x512 x shapeCasts_S8x512_S1x1x8x512) (S := slotSet k) (f := f) hS) $$ H
  iintro H
  iapply le_wp_ret
  iexact H

/-- Step `r` of the fast path fills its group of rows. -/
theorem wp_slabStep (sc : FVec F S32x512 .f32) (k : Fin 8) (r : Nat) (hr : r < 512) :
    iprop(∃ f, ⌜FilledTo sc k (r / 2) f⌝ ∗ slotAt c k f)
      ⊢ wpK c (slabStep scratchRef sc k r) (fun _ => iprop(∃ f, ⌜FilledTo sc k ((r + 1) / 2) f⌝ ∗ slotAt c k f)) := by
  have hq : r / 2 % 64 = r / 2 % 64 := rfl
  refine holding_elim fun f hf => ?_
  unfold slabStep
  rcases Nat.mod_two_eq_zero_or_one r with h | h
  · have e : (r + 1) / 2 = r / 2 := by omega
    rw [h, e]
    dsimp only
    refine wpK_bind c (wp_loadSlab c k _ _ f) fun _ => wpK_pure c ?_
    iintro H
    iexists f
    isplitr; · ipureintro; exact hf
    iexact H
  · rw [h]
    dsimp only
    refine wpK_mono c (wp_storeSlab c k _ _ _ f) fun _ => ?_
    iintro H
    iexists _
    isplitr
    swap; · iexact H
    ipureintro
    intro t a b hn
    rw [write_slab]
    split
    · next hc =>
      obtain ⟨-, h1, h2⟩ := hc
      rw [h1, h2]
    · next hc =>
      apply hf
      by_contra hlt
      apply hc
      have hta : 64 * t.val + a.val / 8 = r / 2 := by omega
      have ha := a.isLt
      refine ⟨rfl, Fin.ext ?_, ?_⟩
      · show t.val = r / 128 % 4; omega
      · show a.val / 8 = r / 2 % 64; omega

/-- The fast path's steps from `r` on fill their groups of rows. -/
theorem wp_slabs (sc : FVec F S32x512 .f32) (k : Fin 8) (n : Nat) : ∀ r, r + n ≤ 512 →
    iprop(∃ f, ⌜FilledTo sc k (r / 2) f⌝ ∗ slotAt c k f)
      ⊢ wpK c (slabs scratchRef sc k r n) (fun _ => iprop(∃ f, ⌜FilledTo sc k ((r + n) / 2) f⌝ ∗ slotAt c k f)) := by
  induction n with
  | zero => intro r _; exact wpK_pure c .rfl
  | succ n ih =>
    intro r hr
    refine wpK_bind c (wp_slabStep c sc k r (by omega)) fun _ => ?_
    have := ih (r + 1) (by omega)
    rwa [show r + 1 + n = r + (n + 1) by omega] at this

/-! ## The patch -/

/-- The load before a store of one sample leaves the slot as it was. -/
theorem wp_loadSample (k : Fin 8) (t : Fin 4) (f : Scratch F) :
    slotAt c k f ⊢ wpK c (Prog.lift (.load scratchRef (sampleRect k t).toLoadRect (View.loadsAt_vmem h_S1x1x512x512)))
      (fun _ => slotAt c k f) := by
  unfold slotAt Prog.lift
  have hS : scratchRef.view.setOn (sampleRect k t).set ⊆ slotSet k := by rw [setOn_scratch]; exact sample_subset k t
  iintro H
  iapply (wp_load Variants.none (c : Thread nD τ) none Set.univ (m := scratchRef) (S := slotSet k) (f := f) hS) $$ H
  iintro H
  iapply le_wp_ret
  iexact H

/-- The store of one sample. -/
theorem wp_storeSample (k : Fin 8) (t : Fin 4) (x : FVec F S512x512 .f32) (f : Scratch F) :
    slotAt c k f ⊢ wpK c (Prog.lift (.store scratchRef (sampleRect k t) (shapeCast S1x1x512x512 x shapeCasts_S512x512_S1x1x512x512)
        Finset.univ (View.stores_vmem_bits_univ h_S1x1x512x512 rfl) (.inl rfl)))
      (fun _ => slotAt c k
      ((scratchRef.access (sampleRect k t)).write (Elt F) f (shapeCast S1x1x512x512 x shapeCasts_S512x512_S1x1x512x512) Finset.univ)) := by
  unfold slotAt Prog.lift
  have hS : (scratchRef.access (sampleRect k t)).setOn Finset.univ ⊆ slotSet k := by
    rw [View.setOn_univ, sample_set]; exact sample_subset k t
  iintro H
  iapply (wp_store Variants.none (c : Thread nD τ) none Set.univ (m := scratchRef) (r := sampleRect k t)
    (w := shapeCast S1x1x512x512 x shapeCasts_S512x512_S1x1x512x512) (S := slotSet k) (f := f) hS) $$ H
  iintro H
  iapply le_wp_ret
  iexact H

/-- The first `n` samples of slot `k` hold their tie-broken matrices. -/
def PatchedTo (sc : FVec F S32x512 .f32) (k : Fin 8) (n : Nat) (f : Scratch F) : Prop :=
  ∀ (t : Fin 4) (a b : Fin 512), t.val < n → f (ix4 k t a b) = fullRows sc (sampleOf k t) (ix2 a b)

/-- The patch of sample `t`. -/
theorem wp_patchOne (sc : FVec F S32x512 .f32) (k : Fin 8) (t : Fin 4) :
    iprop(∃ f, ⌜PatchedTo sc k t.val f⌝ ∗ slotAt c k f)
      ⊢ wpK c (patchOne scratchRef sc k t) (fun _ => iprop(∃ f, ⌜PatchedTo sc k (t.val + 1) f⌝ ∗ slotAt c k f)) := by
  refine holding_elim fun f hf => ?_
  refine wpK_bind c (wp_loadSample c k t f) fun _ => wpK_mono c (wp_storeSample c k t _ f) fun _ => ?_
  iintro H
  iexists _
  isplitr
  swap; · iexact H
  ipureintro
  intro t' a b hn
  rw [write_sample]
  split
  · next hc => rw [hc.2]
  · next hc =>
    apply hf
    by_contra hlt
    exact hc ⟨rfl, Fin.ext (by omega)⟩

/-- The patch of a slot. -/
theorem wp_patchAll (sc : FVec F S32x512 .f32) (k : Fin 8) :
    iprop(∃ f, slotAt c k f) ⊢ wpK c (patchAll scratchRef sc k) (fun _ => iprop(∃ f, ⌜PatchedTo sc k 4 f⌝ ∗ slotAt c k f)) := by
  have h0 : iprop(∃ f, slotAt c k f) ⊢ (iprop(∃ f, ⌜PatchedTo sc k 0 f⌝ ∗ slotAt c k f) : sProp 𝕄) := by
    iintro ⟨%f, H⟩
    iexists f
    isplitr
    · ipureintro; intro t a b hn; exact absurd hn (Nat.not_lt_zero _)
    iexact H
  exact wpK_bind c (h0.trans (wp_patchOne c sc k 0)) fun _ => wpK_bind c (wp_patchOne c sc k 1) fun _ =>
    wpK_bind c (wp_patchOne c sc k 2) fun _ => wp_patchOne c sc k 3

/-- The fast path and the patch leave in the slot what it is to hold. -/
theorem wp_fill (sc : FVec F S32x512 .f32) (k : Fin 8) :
    iprop(∃ f, slotAt c k f) ⊢ wpK c (slabs scratchRef sc k 0 512 >>= fun _ => patchStep scratchRef sc k (totalUpTo sc k 4))
      (fun _ => iprop(∃ f, ⌜Holds sc k f⌝ ∗ slotAt c k f)) := by
  have h0 : iprop(∃ f, slotAt c k f) ⊢ (iprop(∃ f, ⌜FilledTo sc k (0 / 2) f⌝ ∗ slotAt c k f) : sProp 𝕄) := by
    iintro ⟨%f, H⟩
    iexists f
    isplitr
    · ipureintro; intro t a b hn; exact absurd hn (Nat.not_lt_zero _)
    iexact H
  refine wpK_bind c (h0.trans (wp_slabs c sc k 512 0 (by decide))) fun _ => ?_
  unfold patchStep
  split
  · next h =>
    have h1 : iprop(∃ f, ⌜FilledTo sc k ((0 + 512) / 2) f⌝ ∗ slotAt c k f) ⊢ (iprop(∃ f, slotAt c k f) : sProp 𝕄) := by
      iintro ⟨%f, -, H⟩
      iexists f
      iexact H
    refine wpK_mono c (h1.trans (wp_patchAll c sc k)) fun _ => ?_
    iintro ⟨%f, %hf, H⟩
    iexists f
    isplitr
    · ipureintro
      intro t a b
      unfold sampleOut
      rw [if_pos h]
      exact hf t a b t.isLt
    iexact H
  · next h =>
    refine wpK_pure c ?_
    iintro ⟨%f, %hf, H⟩
    iexists f
    isplitr
    · ipureintro
      intro t a b
      unfold sampleOut
      rw [if_neg h]
      exact hf t a b (by have := t.isLt; have := a.isLt; omega)
    iexact H

/-! ## The copies -/

/-- The wait for a pending copy. -/
theorem wp_waitAt (o : Fin 3 → Nat) (h : ∀ a, o a + S4x512x512.size a ≤ S256x512x512.size a) (n : Nat) (k : Fin 8) :
    iprop(busy c v scs n k ∗ owesNothing c)
      ⊢ wpK c (waitAt resultRef scratchRef cc0_scratch1 o h k) (fun _ => iprop(idle c v scs n k ∗ owesNothing c)) := by
  unfold waitAt busy idle owesNothing Prog.lift
  iintro ⟨HF, ⟨%W, HW⟩⟩
  iapply (Transfers.wp_waitLocal (countersEmb (U := Pipeline.UC sig nD τ)) Variants.none (c : Thread nD τ) none
    (srcw := slotRef scratchRef k) (dstw := outRef resultRef o h) (hsrc := (View.wordExact_bits rfl).reshape _ _)
    (hdst := View.wordExact_bits rfl) () (N := copyCredit) rfl) $$ [HF HW]
  · isplitl [HF]; · iexact HF
    iexact HW
  iintro ⟨⟨HC, HS⟩, Hv, HW⟩
  iapply le_wp_ret
  isplitr [HW]
  · isplitl [Hv]; · iexact Hv
    isplitl [HC]; · iexact HC
    iexact HS
  iexists _; iexact HW

/-- What a copy leaves in the result: one more point's samples. -/
theorem copy_mix (i : grid0.Coords) (k : Fin 8) (f : Scratch F) (hf : Holds (scs (i 0)) k f) (j : S256x512x512.Idx) (hj : j ∈ colSet k) :
    (outRef resultRef (outOff i k) (outOff_inb i k)).view.write (Elt F) (mix v scs (i 0).val)
      ((slotRef scratchRef k).view.read (Elt F) f) Finset.univ j = mix v scs ((i 0).val + 1) j := by
  rw [mem_colSet] at hj
  have hk := k.isLt
  idx_vars j
  replace hj : j0.val / 4 % 8 = k.val := hj
  rw [write_out]
  split
  · next h =>
    rw [read_slot, hf]
    have hm : mix v scs ((i 0).val + 1) (ix3 j0 j1 j2) = finalOut scs (ix3 j0 j1 j2) :=
      if_pos (show j0.val < 32 * ((i 0).val + 1) by omega)
    refine Eq.trans ?_ hm.symm
    have h1 : (i 0 : Fin 8) = ⟨j0.val / 32, by omega⟩ := Fin.ext (show (i 0).val = j0.val / 32 by omega)
    have h2 : k = ⟨j0.val / 4 % 8, by omega⟩ := Fin.ext hj.symm
    show sampleOut (scs (i 0)) k _ j1 j2 = sampleOut (scs ⟨j0.val / 32, _⟩) ⟨j0.val / 4 % 8, _⟩ _ j1 j2
    rw [← h2]
    exact congrArg (fun n : Fin 8 => sampleOut (scs n) k ⟨j0.val % 4, by omega⟩ j1 j2) h1
  · next h =>
    exact if_congr (show j0.val < 32 * (i 0).val ↔ j0.val < 32 * ((i 0).val + 1) by omega) rfl rfl

/-- The start of slot `k`'s copy at point `i`. -/
theorem wp_startStep (i : grid0.Coords) (k : Fin 8) (f : Scratch F) (hf : Holds (scs (i 0)) k f) :
    iprop(semVal ((c : Thread nD τ), semLoc k) 0 ∗ colAt c k (mix v scs (i 0).val) ∗ slotAt c k f)
      ⊢ wpK c (startStep i resultRef scratchRef cc0_scratch1 k) (fun _ => busy c v scs ((i 0).val + 1) k) := by
  unfold startStep busy colAt slotAt Prog.lift
  have hN0 : 0 < copyCredit := View.dmaCredit_pos _ (by decide +kernel)
  have hs := slotRef_set k
  iintro ⟨Hv, HC, HS⟩
  iapply (Transfers.wp_dmaLocal (countersEmb (U := Pipeline.UC sig nD τ)) Variants.none (c : Thread nD τ) none (src := slotRef scratchRef k)
    (via := ReadAs.same) (dst := outRef resultRef (outOff i k) (outOff_inb i k)) (fs := f) (q := fullShare)
    (Sd := colSet k) (fd := mix v scs (i 0).val) () copyCredit rfl hN0 (out_subset i k)) $$ [Hv HC HS]
  · isplitl [HS]
    · irw [hs]; iexact HS
    isplitl [HC]; · iexact HC
    iexact Hv
  iintro HF
  iapply le_wp_ret
  have hD : iprop((((c : Thread nD τ).loc main_v2) ↦[colSet k]{fullShare}
        (outRef resultRef (outOff i k) (outOff_inb i k)).view.write (Elt F) (mix v scs (i 0).val)
          ((slotRef scratchRef k).view.read (Elt F) f) Finset.univ)
      ∗ ((c : Thread nD τ).loc cc0_scratch0) ↦[(slotRef scratchRef k).view.set]{fullShare} f)
    ⊢ (iprop((((c : Thread nD τ).loc main_v2) ↦[colSet k]{fullShare} mix v scs ((i 0).val + 1))
      ∗ ∃ f, ((c : Thread nD τ).loc cc0_scratch0) ↦[slotSet k]{fullShare} f) : sProp 𝕄) := by
    rw [pointsTo_congr (copy_mix v scs i k f hf), hs]
    iintro ⟨H1, H2⟩
    isplitl [H1]; · iexact H1
    iexists f; iexact H2
  iapply (Transfers.Flight_mono (countersEmb (U := Pipeline.UC sig nD τ)) (c : Thread nD τ) hD) $$ HF

end

end Cert.KernelIdeal.Hand
end
-- ==== Proof.Parts.lean ====
/- The printed body is the body written as numbered steps. -/
module

public import proofs.«01_k».proof.Proof.Steps
public import Idealize.ShloMosaic.Lib.Pipeline.Regions

@[expose] public section

set_option maxRecDepth 16384

noncomputable section

namespace Cert.KernelIdeal.Hand

open Idealize.ShloMosaic Idealize.ShloMosaic.TcCoe Idealize.ShloMosaic.Tactic
open Idealize.SL Idealize.SL.Sem
open Cert.KernelIdeal Cert.KernelIdeal.Gen

variable {F : FTy → Type} [FloatOps F]
variable (i : grid0.Coords) (arg1 : Memref sig .tc .vmem S1x512 .f32) (harg1 : arg1.IsWhole)
  (arg2 : Memref sig .tc .vmem S32x1x512 .f32) (harg2 : arg2.IsWhole) (arg3 : Memref sig .tc .hbm S256x512x512 .f32) (harg3 : arg3.IsWhole)
  (arg4 : Memref sig .tc .vmem S8x4x512x512 .f32) (harg4 : arg4.IsWhole) (arg5 : DmaSems sig S8)
variable (sc : FVec F S32x512 .f32)

/-- The grid coordinate as the kernel's word. -/
abbrev pt : BitVec 32 := BitVec.ofNat 32 (i 0).val

/-! ## Branches in the printed form

The printed text writes a branch without a value followed by the rest `K` as a choice between two runs into `K`. -/

/-- The patch, then `K`, as printed. -/
def patchThen {α : Type} (k : Fin 8) (tot : F .f32) (K : KProg F α) : KProg F α := do
  if tieBit tot = 1#1 then do
    patchAll arg4 sc k
    pure ⟨⟩
  else do
    pure ⟨⟩
  K

/-- The wait for the copy of the point before, then `K`, as printed. -/
def waitThen {α : Type} (k : Fin 8) (K : KProg F α) : KProg F α := do
  if h : laterBit i = 1#1 then do
    waitAt arg3 arg4 arg5 (prevOff i k) (prevOff_inb i h k) k
    pure ⟨⟩
  else do
    pure ⟨⟩
  K

/-- The waits of the last point, then `K`, as printed. -/
def drainThen {α : Type} (K : KProg F α) : KProg F α := do
  if lastBit i = 1#1 then do
    drainAll arg3 arg4 arg5
    pure ⟨⟩
  else do
    pure ⟨⟩
  K

theorem patchThen_eq {α : Type} (k : Fin 8) (tot : F .f32) (K : KProg F α) :
    patchThen arg4 sc k tot K = (patchStep arg4 sc k tot >>= fun _ => K) := by
  unfold patchThen patchStep
  by_cases h : tieBit tot = 1#1
  · simp only [if_pos h]
  · simp only [if_neg h]; rfl

theorem waitThen_eq {α : Type} (k : Fin 8) (K : KProg F α) :
    waitThen i arg3 arg4 arg5 k K = (waitStep i arg3 arg4 arg5 k >>= fun _ => K) := by
  unfold waitThen waitStep
  by_cases h : laterBit i = 1#1
  · simp only [dif_pos h]
  · simp only [dif_neg h]; rfl

theorem drainThen_eq {α : Type} (K : KProg F α) :
    drainThen i arg3 arg4 arg5 K = (drainStep i arg3 arg4 arg5 >>= fun _ => K) := by
  unfold drainThen drainStep
  by_cases h : lastBit i = 1#1
  · simp only [if_pos h]
  · simp only [if_neg h]; rfl

/-! ## The printed parts with a branch -/

theorem part18_eq :
    k0_part18 (F := F) i arg1 harg1 arg2 harg2 arg3 harg3 arg4 harg4 arg5  = (do
    let g ← Prog.lift (.load arg1 (Rect.unit (s := S1x512) ![0, 0] S1x512.size inb_S1x512_S1x512_0_0).toLoadRect (View.loadsAt_vmem h_S1x512))
    let z ← Prog.lift (.load arg2 (Rect.unit (s := S32x1x512) ![0, 0, 0] S32x1x512.size inb_S32x1x512_S32x1x512_0_0_0).toLoadRect (View.loadsAt_vmem h_S32x1x512))
    waitThen i arg3 arg4 arg5 0 (pure ⟨pt i, scores g z, transposed (scores g z), onesRow, iota8, totalUpTo (scores g z) 0 1, rankQ (scores g z) 0,
      subHit (scores g z) 0, hit (scores g z) 0 0, broadcast S8x512 (Scalar.ofBits .f32 0x3F800000#32), broadcast S8x512 (Scalar.ofBits .f32 0x00000000#32)⟩)) := by
  unfold k0_part18
  show _ = _
  chain_rfl

theorem part97_eq (tot : F .f32) :
    k0_part97 (F := F) i arg1 harg1 arg2 harg2 arg3 harg3 arg4 harg4 arg5 (pt i) sc (transposed sc) onesRow iota8 tot = (do
    patchThen arg4 sc 0 tot (do startStep i arg3 arg4 arg5 0; waitThen i arg3 arg4 arg5 1 (pure ⟨totalUpTo sc 1 1, rankQ sc 4, subHit sc 4, 0#32⟩))) := by
  unfold k0_part97
  show _ = _
  chain_rfl

theorem part176_eq (tot : F .f32) (x : FVec F S8x512 .f32) :
    k0_part176 (F := F) i arg1 harg1 arg2 harg2 arg3 harg3 arg4 harg4 arg5 (pt i) sc (transposed sc) onesRow tot x = (do
    putSlab arg4 1 3 63 x
    patchThen arg4 sc 1 tot (do startStep i arg3 arg4 arg5 1; waitThen i arg3 arg4 arg5 2 (pure ⟨totalUpTo sc 2 1, fptosi 32 (fastRank sc 8), 3#32⟩))) := by
  unfold k0_part176
  show _ = _
  chain_rfl

theorem part255_eq (tot : F .f32) (rq : IVec S1x512 32) (sub : IVec S8x512 1) (w : IVec S1x512 32) :
    k0_part255 (F := F) i arg1 harg1 arg2 harg2 arg3 harg3 arg4 harg4 arg5 (pt i) sc (transposed sc) onesRow tot rq sub w = (do
    putSlab arg4 2 3 63 (onesAt (andi sub (broadcastTo S8x512 (cmpi .eq rq w) broadcasts_S1x512_S8x512)))
    patchThen arg4 sc 2 tot (do startStep i arg3 arg4 arg5 2; waitThen i arg3 arg4 arg5 3 (pure ⟨fastRank sc 12, shapeCast S1x1x512 (fastRank sc 12) shapeCasts_S1x512_S1x1x512⟩))) := by
  unfold k0_part255
  show _ = _
  chain_rfl

theorem part334_eq (tot : F .f32) (rq : IVec S1x512 32) (sub : IVec S8x512 1) (x : FVec F S8x512 .f32) :
    k0_part334 (F := F) i arg1 harg1 arg2 harg2 arg3 harg3 arg4 harg4 arg5 (pt i) sc (transposed sc) onesRow tot rq sub x = (do
    putSlab arg4 3 3 62 x
    putSlab arg4 3 3 63 (onesAt (hitOf sub rq 63))
    patchThen arg4 sc 3 tot (do startStep i arg3 arg4 arg5 3; waitThen i arg3 arg4 arg5 4 (pure (lessThan sc 16)))) := by
  unfold k0_part334
  show _ = _
  chain_rfl

theorem part413_eq (tot : F .f32) (rq : IVec S1x512 32) (sub h : IVec S8x512 1) :
    k0_part413 (F := F) i arg1 harg1 arg2 harg2 arg3 harg3 arg4 harg4 arg5 (pt i) sc (transposed sc) onesRow tot rq sub h = (do
    putSlab arg4 4 3 62 (onesAt (andi sub h))
    putSlab arg4 4 3 63 (onesAt (hitOf sub rq 63))
    patchThen arg4 sc 4 tot (do startStep i arg3 arg4 arg5 4; pure (Scalar.extui (Scalar.cmpi .sgt (pt i) 0#32)))) := by
  unfold k0_part413
  show _ = _
  chain_rfl

theorem part414_eq (w : BitVec 32) :
    k0_part414 (F := F) i arg1 harg1 arg2 harg2 arg3 harg3 arg4 harg4 arg5 (pt i) sc (transposed sc) onesRow iota8 w = (do
    waitThen i arg3 arg4 arg5 5 (do
      putSlab arg4 5 0 0 (fastRows sc 20 0)
      pure ⟨totalUpTo sc 5 1, rankQ sc 20, subHit sc 20, fastRows sc 20 1⟩)) := by
  unfold k0_part414
  show _ = _
  chain_rfl

theorem part492_eq (tot : F .f32) (rq : IVec S1x512 32) (sub : IVec S8x512 1) (x : FVec F S8x512 .f32) :
    k0_part492 (F := F) i arg1 harg1 arg2 harg2 arg3 harg3 arg4 harg4 arg5 (pt i) sc (transposed sc) onesRow tot rq sub x = (do
    putSlab arg4 5 3 61 x
    putSlab arg4 5 3 62 (onesAt (hitOf sub rq 62))
    putSlab arg4 5 3 63 (onesAt (hitOf sub rq 63))
    patchThen arg4 sc 5 tot (pure ⟨⟩)) := by
  unfold k0_part492
  show _ = _
  chain_rfl

theorem part493_eq :
    k0_part493 (F := F) i arg1 harg1 arg2 harg2 arg3 harg3 arg4 harg4 arg5 (pt i) sc (transposed sc) onesRow iota8 = (do
    startStep i arg3 arg4 arg5 5
    waitThen i arg3 arg4 arg5 6 (do
      putSlab arg4 6 0 0 (fastRows sc 24 0)
      pure ⟨totalUpTo sc 6 1, rankQ sc 24, subHit sc 24, cmpi .eq (rankQ sc 24) (broadcast S1x512 1#32)⟩)) := by
  unfold k0_part493
  show _ = _
  chain_rfl

theorem part571_eq (tot : F .f32) (rq : IVec S1x512 32) (sub h : IVec S8x512 1) (c : F .f32) :
    k0_part571 (F := F) i arg1 harg1 arg2 harg2 arg3 harg3 arg4 harg4 arg5 (pt i) sc (transposed sc) onesRow tot rq sub h c = (do
    putSlab arg4 6 3 61 (select h (broadcast S8x512 c) (broadcast S8x512 (Scalar.ofBits .f32 0x00000000#32)))
    putSlab arg4 6 3 62 (onesAt (hitOf sub rq 62))
    putSlab arg4 6 3 63 (onesAt (hitOf sub rq 63))
    patchThen arg4 sc 6 tot (pure ⟨⟩)) := by
  unfold k0_part571
  show _ = _
  chain_rfl

theorem part572_eq :
    k0_part572 (F := F) i arg1 harg1 arg2 harg2 arg3 harg3 arg4 harg4 arg5 (pt i) sc (transposed sc) onesRow iota8 = (do
    startStep i arg3 arg4 arg5 6
    waitThen i arg3 arg4 arg5 7 (pure ⟨totalUpTo sc 7 1, rankQ sc 28, subHit sc 28, fastRows sc 28 0⟩)) := by
  unfold k0_part572
  show _ = _
  chain_rfl

/-! ## The parts of parts -/

theorem part651_eq :
    k0_part651 (F := F) i arg1 harg1 arg2 harg2 arg3 harg3 arg4 harg4 arg5  = (do
    let g ← Prog.lift (.load arg1 (Rect.unit (s := S1x512) ![0, 0] S1x512.size inb_S1x512_S1x512_0_0).toLoadRect (View.loadsAt_vmem h_S1x512))
    let z ← Prog.lift (.load arg2 (Rect.unit (s := S32x1x512) ![0, 0, 0] S32x1x512.size inb_S32x1x512_S32x1x512_0_0_0).toLoadRect (View.loadsAt_vmem h_S32x1x512))
    waitStep i arg3 arg4 arg5 0
    slabs arg4 (scores g z) 0 0 384
    pure ⟨pt i, scores g z, transposed (scores g z), onesRow, iota8, totalUpTo (scores g z) 0 4, rankQ (scores g z) 3,
      subHit (scores g z) 3, fastRows (scores g z) 3 0⟩) := by
  unfold k0_part651
  simp -zeta only [part18_eq, patchThen_eq, waitThen_eq, Prog.bind_assoc]
  show _ = _
  chain_rfl

theorem part652_eq :
    k0_part652 (F := F) i arg1 harg1 arg2 harg2 arg3 harg3 arg4 harg4 arg5 (pt i) sc (transposed sc) onesRow iota8 (totalUpTo sc 0 4) (rankQ sc 3) (subHit sc 3) (fastRows sc 3 0) = (do
    slabs arg4 sc 0 384 128
    patchStep arg4 sc 0 (totalUpTo sc 0 4)
    startStep i arg3 arg4 arg5 0
    waitStep i arg3 arg4 arg5 1
    slabs arg4 sc 1 0 260
    pure ⟨totalUpTo sc 1 3, rankQ sc 6, subHit sc 6, hit sc 6 2, Scalar.ofBits .f32 0x3F800000#32, Scalar.ofBits .f32 0x00000000#32⟩) := by
  unfold k0_part652
  simp -zeta only [part97_eq, patchThen_eq, waitThen_eq, Prog.bind_assoc]
  show _ = _
  chain_rfl

theorem part653_eq :
    k0_part653 (F := F) i arg1 harg1 arg2 harg2 arg3 harg3 arg4 harg4 arg5 (pt i) sc (transposed sc) onesRow iota8 (totalUpTo sc 1 3) (rankQ sc 6) (subHit sc 6) (hit sc 6 2) (Scalar.ofBits .f32 0x3F800000#32) (Scalar.ofBits .f32 0x00000000#32) = (do
    slabs arg4 sc 1 260 252
    patchStep arg4 sc 1 (totalUpTo sc 1 4)
    startStep i arg3 arg4 arg5 1
    waitStep i arg3 arg4 arg5 2
    slabs arg4 sc 2 0 136
    pure ⟨totalUpTo sc 2 2, rankQ sc 9, subHit sc 9, broadcast S1x512 4#32⟩) := by
  unfold k0_part653
  simp -zeta only [part176_eq, patchThen_eq, waitThen_eq, Prog.bind_assoc]
  show _ = _
  chain_rfl

theorem part654_eq :
    k0_part654 (F := F) i arg1 harg1 arg2 harg2 arg3 harg3 arg4 harg4 arg5 (pt i) sc (transposed sc) onesRow iota8 (totalUpTo sc 2 2) (rankQ sc 9) (subHit sc 9) (broadcast S1x512 4#32) = (do
    slabs arg4 sc 2 136 376
    patchStep arg4 sc 2 (totalUpTo sc 2 4)
    startStep i arg3 arg4 arg5 2
    waitStep i arg3 arg4 arg5 3
    slabs arg4 sc 3 0 10
    let y ← loadSlab arg4 3 0 5
    pure ⟨totalUpTo sc 3 1, rankQ sc 12, subHit sc 12, fastRows sc 12 5, y⟩) := by
  unfold k0_part654
  simp -zeta only [part255_eq, patchThen_eq, waitThen_eq, Prog.bind_assoc]
  show _ = _
  chain_rfl

theorem part655_eq (y : Vec F S1x1x8x512 .f32) :
    k0_part655 (F := F) i arg1 harg1 arg2 harg2 arg3 harg3 arg4 harg4 arg5 sc (transposed sc) onesRow iota8 (totalUpTo sc 3 1) (rankQ sc 12) (subHit sc 12) (fastRows sc 12 5) y = (do
    slabs arg4 sc 3 11 391
    pure ⟨totalUpTo sc 3 4, rankQ sc 15, subHit sc 15, hit sc 15 9, Scalar.ofBits .f32 0x3F800000#32⟩) := by
  unfold k0_part655
  show _ = _
  chain_rfl

theorem part656_eq :
    k0_part656 (F := F) i arg1 harg1 arg2 harg2 arg3 harg3 arg4 harg4 arg5 (pt i) sc (transposed sc) onesRow iota8 (totalUpTo sc 3 4) (rankQ sc 15) (subHit sc 15) (hit sc 15 9) (Scalar.ofBits .f32 0x3F800000#32) = (do
    slabs arg4 sc 3 402 110
    patchStep arg4 sc 3 (totalUpTo sc 3 4)
    startStep i arg3 arg4 arg5 3
    waitStep i arg3 arg4 arg5 4
    slabs arg4 sc 4 0 278
    pure ⟨totalUpTo sc 4 3, rankQ sc 18, subHit sc 18, 11#32⟩) := by
  unfold k0_part656
  simp -zeta only [part334_eq, patchThen_eq, waitThen_eq, Prog.bind_assoc]
  show _ = _
  chain_rfl

theorem part657_eq :
    k0_part657 (F := F) i arg1 harg1 arg2 harg2 arg3 harg3 arg4 harg4 arg5 (pt i) sc (transposed sc) onesRow iota8 (totalUpTo sc 4 3) (rankQ sc 18) (subHit sc 18) 11#32 = (do
    slabs arg4 sc 4 278 234
    patchStep arg4 sc 4 (totalUpTo sc 4 4)
    startStep i arg3 arg4 arg5 4
    waitStep i arg3 arg4 arg5 5
    slabs arg4 sc 5 0 152
    pure ⟨totalUpTo sc 5 2, rankQ sc 21, subHit sc 21, fastRows sc 21 12⟩) := by
  unfold k0_part657
  simp -zeta only [part413_eq, part414_eq, patchThen_eq, waitThen_eq, Prog.bind_assoc]
  show _ = _
  chain_rfl

theorem part658_eq :
    k0_part658 (F := F) i arg1 harg1 arg2 harg2 arg3 harg3 arg4 harg4 arg5 (pt i) sc (transposed sc) onesRow iota8 (totalUpTo sc 5 2) (rankQ sc 21) (subHit sc 21) (fastRows sc 21 12) = (do
    slabs arg4 sc 5 152 360
    patchStep arg4 sc 5 (totalUpTo sc 5 4)
    startStep i arg3 arg4 arg5 5
    waitStep i arg3 arg4 arg5 6
    slabs arg4 sc 6 0 28
    pure ⟨totalUpTo sc 6 1, rankQ sc 24, subHit sc 24, hit sc 24 14, broadcast S8x512 (Scalar.ofBits .f32 0x3F800000#32), broadcast S8x512 (Scalar.ofBits .f32 0x00000000#32)⟩) := by
  unfold k0_part658
  simp -zeta only [part492_eq, part493_eq, patchThen_eq, waitThen_eq, Prog.bind_assoc]
  show _ = _
  chain_rfl

theorem part659_eq :
    k0_part659 (F := F) i arg1 harg1 arg2 harg2 arg3 harg3 arg4 harg4 arg5 sc (transposed sc) onesRow iota8 (totalUpTo sc 6 1) (rankQ sc 24) (subHit sc 24) (hit sc 24 14) (broadcast S8x512 (Scalar.ofBits .f32 0x3F800000#32)) (broadcast S8x512 (Scalar.ofBits .f32 0x00000000#32)) = (do
    slabs arg4 sc 6 28 392
    pure ⟨totalUpTo sc 6 4, rankQ sc 27, subHit sc 27⟩) := by
  unfold k0_part659
  show _ = _
  chain_rfl

theorem part660_eq :
    k0_part660 (F := F) i arg1 harg1 arg2 harg2 arg3 harg3 arg4 harg4 arg5 (pt i) sc (transposed sc) onesRow iota8 (totalUpTo sc 6 4) (rankQ sc 27) (subHit sc 27) = (do
    slabs arg4 sc 6 420 92
    patchStep arg4 sc 6 (totalUpTo sc 6 4)
    startStep i arg3 arg4 arg5 6
    waitStep i arg3 arg4 arg5 7
    slabs arg4 sc 7 0 294
    pure ⟨totalUpTo sc 7 3, rankQ sc 30, subHit sc 30, fastRows sc 30 19⟩) := by
  unfold k0_part660
  simp -zeta only [part571_eq, part572_eq, patchThen_eq, waitThen_eq, Prog.bind_assoc]
  show _ = _
  chain_rfl

theorem part661_eq :
    k0_part661 (F := F) i arg1 harg1 arg2 harg2 arg3 harg3 arg4 harg4 arg5 (pt i) sc (transposed sc) onesRow iota8 (totalUpTo sc 7 3) (rankQ sc 30) (subHit sc 30) (fastRows sc 30 19) = (do
    slabs arg4 sc 7 294 218
    patchStep arg4 sc 7 (totalUpTo sc 7 4)
    startStep i arg3 arg4 arg5 7
    drainStep i arg3 arg4 arg5) := by
  have e : k0_part661 (F := F) i arg1 harg1 arg2 harg2 arg3 harg3 arg4 harg4 arg5 (pt i) sc (transposed sc) onesRow iota8 (totalUpTo sc 7 3) (rankQ sc 30) (subHit sc 30) (fastRows sc 30 19) = (do
      slabs arg4 sc 7 294 218
      patchThen arg4 sc 7 (totalUpTo sc 7 4) (do startStep i arg3 arg4 arg5 7; drainThen i arg3 arg4 arg5 (pure ⟨⟩))) := by
    unfold k0_part661
    show _ = _
    chain_rfl
  rw [e]
  have hb : (drainStep (F := F) i arg3 arg4 arg5 >>= fun _ => pure ⟨⟩) = drainStep i arg3 arg4 arg5 := Prog.bind_pure _
  simp only [patchThen_eq, drainThen_eq, hb]

/-- Consecutive steps of a slot's fast path, joined. -/
theorem slabs_add (k : Fin 8) (r a b : Nat) :
    slabs arg4 sc k r (a + b) = (slabs arg4 sc k r a >>= fun _ => slabs arg4 sc k (r + a) b) := by
  induction a generalizing r with
  | zero => simp only [Nat.zero_add, Nat.add_zero]; rfl
  | succ a ih =>
    rw [Nat.add_right_comm, slabs, slabs, Prog.bind_assoc]
    refine congrArg _ (funext fun _ => ?_)
    rw [ih, Nat.add_right_comm]; rfl

/-- The printed body is the body written as numbered steps. -/
theorem body_eq :
    cc0__perm_kernel (F := F) i arg1 harg1 arg2 harg2 arg3 harg3 arg4 harg4 arg5 = bodyProg i arg3 arg4 arg5 arg1 arg2 := by
  have e : cc0__perm_kernel (F := F) i arg1 harg1 arg2 harg2 arg3 harg3 arg4 harg4 arg5
      = (k0_part651 i arg1 harg1 arg2 harg2 arg3 harg3 arg4 harg4 arg5 >>= fun x =>
        k0_part652 i arg1 harg1 arg2 harg2 arg3 harg3 arg4 harg4 arg5 x.1 x.2.1 x.2.2.1 x.2.2.2.1 x.2.2.2.2.1 x.2.2.2.2.2.1
          x.2.2.2.2.2.2.1 x.2.2.2.2.2.2.2.1 x.2.2.2.2.2.2.2.2 >>= fun a =>
        k0_part653 i arg1 harg1 arg2 harg2 arg3 harg3 arg4 harg4 arg5 x.1 x.2.1 x.2.2.1 x.2.2.2.1 x.2.2.2.2.1
          a.1 a.2.1 a.2.2.1 a.2.2.2.1 a.2.2.2.2.1 a.2.2.2.2.2 >>= fun b =>
        k0_part654 i arg1 harg1 arg2 harg2 arg3 harg3 arg4 harg4 arg5 x.1 x.2.1 x.2.2.1 x.2.2.2.1 x.2.2.2.2.1
          b.1 b.2.1 b.2.2.1 b.2.2.2 >>= fun c =>
        k0_part655 i arg1 harg1 arg2 harg2 arg3 harg3 arg4 harg4 arg5 x.2.1 x.2.2.1 x.2.2.2.1 x.2.2.2.2.1
          c.1 c.2.1 c.2.2.1 c.2.2.2.1 c.2.2.2.2 >>= fun d =>
        k0_part656 i arg1 harg1 arg2 harg2 arg3 harg3 arg4 harg4 arg5 x.1 x.2.1 x.2.2.1 x.2.2.2.1 x.2.2.2.2.1
          d.1 d.2.1 d.2.2.1 d.2.2.2.1 d.2.2.2.2 >>= fun e =>
        k0_part657 i arg1 harg1 arg2 harg2 arg3 harg3 arg4 harg4 arg5 x.1 x.2.1 x.2.2.1 x.2.2.2.1 x.2.2.2.2.1
          e.1 e.2.1 e.2.2.1 e.2.2.2 >>= fun f =>
        k0_part658 i arg1 harg1 arg2 harg2 arg3 harg3 arg4 harg4 arg5 x.1 x.2.1 x.2.2.1 x.2.2.2.1 x.2.2.2.2.1
          f.1 f.2.1 f.2.2.1 f.2.2.2 >>= fun g =>
        k0_part659 i arg1 harg1 arg2 harg2 arg3 harg3 arg4 harg4 arg5 x.2.1 x.2.2.1 x.2.2.2.1 x.2.2.2.2.1
          g.1 g.2.1 g.2.2.1 g.2.2.2.1 g.2.2.2.2.1 g.2.2.2.2.2 >>= fun h =>
        k0_part660 i arg1 harg1 arg2 harg2 arg3 harg3 arg4 harg4 arg5 x.1 x.2.1 x.2.2.1 x.2.2.2.1 x.2.2.2.2.1
          h.1 h.2.1 h.2.2 >>= fun l =>
        k0_part661 i arg1 harg1 arg2 harg2 arg3 harg3 arg4 harg4 arg5 x.1 x.2.1 x.2.2.1 x.2.2.2.1 x.2.2.2.2.1
          l.1 l.2.1 l.2.2.1 l.2.2.2 >>= fun _ => pure ⟨⟩) := by
    unfold cc0__perm_kernel
    show _ = _
    chain_rfl
  rw [e]
  have s0 := fun sc => slabs_add (F := F) arg4 sc 0 0 384 128
  have s1 := fun sc => slabs_add (F := F) arg4 sc 1 0 260 252
  have s2 := fun sc => slabs_add (F := F) arg4 sc 2 0 136 376
  have s3 := fun sc => slabs_add (F := F) arg4 sc 3 0 10 502
  have s3' := fun sc => slabs_add (F := F) arg4 sc 3 11 391 110
  have s4 := fun sc => slabs_add (F := F) arg4 sc 4 0 278 234
  have s5 := fun sc => slabs_add (F := F) arg4 sc 5 0 152 360
  have s6 := fun sc => slabs_add (F := F) arg4 sc 6 28 392 92
  have s6' := fun sc => slabs_add (F := F) arg4 sc 6 0 28 484
  have s7 := fun sc => slabs_add (F := F) arg4 sc 7 0 294 218
  simp only [Nat.reduceAdd] at s0 s1 s2 s3 s3' s4 s5 s6 s6' s7
  have s3a : ∀ sc, slabs (F := F) arg4 sc 3 10 502 = (loadSlab arg4 3 0 5 >>= fun _ => slabs arg4 sc 3 11 501) := fun _ => rfl
  have hd : (drainStep (F := F) i arg3 arg4 arg5 >>= fun _ => pure ⟨⟩) = drainStep i arg3 arg4 arg5 := Prog.bind_pure _
  have f0 : ∀ sc, slotsFrom (F := F) i arg3 arg4 arg5 sc 0 8 = (do
      slotProg i arg3 arg4 arg5 sc 0; slotProg i arg3 arg4 arg5 sc 1; slotProg i arg3 arg4 arg5 sc 2; slotProg i arg3 arg4 arg5 sc 3
      slotProg i arg3 arg4 arg5 sc 4; slotProg i arg3 arg4 arg5 sc 5; slotProg i arg3 arg4 arg5 sc 6; slotProg i arg3 arg4 arg5 sc 7
      pure ⟨⟩) := fun _ => rfl
  unfold bodyProg
  simp only [f0, slotProg, s0, s1, s2, s3, s3a, s3', s4, s5, s6', s6, s7, part651_eq, part652_eq, part653_eq, part654_eq, part655_eq, part656_eq,
    part657_eq, part658_eq, part659_eq, part660_eq, part661_eq, Prog.bind_assoc, pure_bind, hd]

end Cert.KernelIdeal.Hand
end
-- ==== Proof.Body.lean ====
/- The kernel's body at one point of the grid: what it needs of the slots and what it leaves of them. -/
module

public import proofs.«01_k».proof.Proof.Slots
public import proofs.«01_k».proof.Proof.Parts
public import Idealize.ShloMosaic.Lib.VecWindow

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (Pipeline.UC sig nD τ) ℕ

/-! ## The two tests on the point's number -/

/-- The kernel's test for a point before this one. -/
theorem laterBit_iff (i : grid0.Coords) : laterBit i = 1#1 ↔ (i 0).val ≠ 0 := by
  have h : ∀ n : Fin 8, (Scalar.cmpi .ne (Scalar.extui (Scalar.cmpi .sgt (BitVec.ofNat 32 n.val) 0#32) : BitVec 32) 0#32) = 1#1
      ↔ n.val ≠ 0 := by decide +kernel
  exact h (i 0)

/-- The kernel's test for the last point. -/
theorem lastBit_iff (i : grid0.Coords) : lastBit i = 1#1 ↔ (i 0).val = 7 := by
  have h : ∀ n : Fin 8, (Scalar.cmpi .ne (Scalar.extui (Scalar.cmpi .eq (BitVec.ofNat 32 n.val) 7#32) : BitVec 32) 0#32) = 1#1
      ↔ n.val = 7 := by decide +kernel
  exact h (i 0)

/-! ## One slot after another -/

/-- A program for each slot, run for the `n` slots from `k` on. -/
def eachFrom (p : Fin 8 → KProg F PUnit) : Nat → Nat → KProg F PUnit
  | _, 0 => pure ⟨⟩
  | k, n + 1 => do p ⟨k % 8, Nat.mod_lt _ (by decide)⟩; eachFrom p (k + 1) n

theorem slotsFrom_eq (i : grid0.Coords) (arg3 : Memref sig .tc .hbm S256x512x512 .f32) (arg4 : Memref sig .tc .vmem S8x4x512x512 .f32)
    (arg5 : DmaSems sig S8) (sc : FVec F S32x512 .f32) (n : Nat) : ∀ k,
    slotsFrom i arg3 arg4 arg5 sc k n = eachFrom (slotProg i arg3 arg4 arg5 sc) k n := by
  induction n with
  | zero => intro k; rfl
  | succ n ih => intro k; unfold slotsFrom eachFrom; rw [ih]

theorem drainAll_eq (arg3 : Memref sig .tc .hbm S256x512x512 .f32) (arg4 : Memref sig .tc .vmem S8x4x512x512 .f32)
    (arg5 : DmaSems sig S8) :
    (drainAll arg3 arg4 arg5 : KProg F PUnit) = eachFrom (waitAt arg3 arg4 arg5 ![0, 0, 0] first_inb) 0 8 := by
  chain_rfl

section
variable (c : Dev nD)

/-- One slot set apart from the others. -/
theorem slots_split (a : Fin 8) (Φ : Fin 8 → sProp 𝕄) :
    bigSep Finset.univ Φ = iprop(Φ a ∗ bigSep (Finset.univ.erase a) Φ) := BI.bigSep_univ_split a

/-- Programs that each take their own slot from `A` to `B` take all slots from `A` to `B`. -/
theorem wp_eachFrom (p : Fin 8 → KProg F PUnit) (A B : Fin 8 → sProp 𝕄) (R : sProp 𝕄)
    (h : ∀ k, iprop(A k ∗ R) ⊢ wpK c (p k) (fun _ => iprop(B k ∗ R))) (n : Nat) : ∀ k, k + n = 8 →
    iprop(bigSep Finset.univ (fun j : Fin 8 => if j.val < k then B j else A j) ∗ R)
      ⊢ wpK c (eachFrom p k n) (fun _ => iprop(bigSep Finset.univ B ∗ R)) := by
  induction n with
  | zero =>
    intro k hk
    refine wpK_pure c ?_
    rw [bigSep_congr fun (j : Fin 8) _ => if_pos (show j.val < k by have := j.isLt; omega)]
  | succ n ih =>
    intro k hk
    let a : Fin 8 := ⟨k % 8, Nat.mod_lt _ (by decide)⟩
    have ha : a.val = k := Nat.mod_eq_of_lt (by omega)
    refine wpK_bind c (R := fun _ => iprop(bigSep Finset.univ (fun j : Fin 8 => if j.val < k + 1 then B j else A j) ∗ R)) ?_
      fun _ => ih (k + 1) (by omega)
    rw [slots_split a, slots_split a, if_neg (by omega), if_pos (by omega),
      bigSep_congr fun j hj => if_congr (show j.val < k ↔ j.val < k + 1 by
        have : j ≠ a := Finset.ne_of_mem_erase hj
        have : j.val ≠ a.val := fun e => this (Fin.ext e)
        omega) rfl rfl]
    have h1 := wpK_frame c (R := bigSep (Finset.univ.erase a) (fun j : Fin 8 => if j.val < k + 1 then B j else A j)) (h a)
    refine wpK_mono c (BIBase.Entails.trans ?_ h1) fun _ => ?_
    · iintro ⟨⟨H1, H2⟩, H3⟩
      isplitr [H2]
      · isplitl [H1]; · iexact H1
        iexact H3
      iexact H2
    · iintro ⟨⟨H1, H2⟩, H3⟩
      isplitr [H2]
      · isplitl [H1]; · iexact H1
        iexact H3
      iexact H2

/-- All slots, from the first on. -/
theorem wp_each (p : Fin 8 → KProg F PUnit) (A B : Fin 8 → sProp 𝕄) (R : sProp 𝕄)
    (h : ∀ k, iprop(A k ∗ R) ⊢ wpK c (p k) (fun _ => iprop(B k ∗ R))) :
    iprop(bigSep Finset.univ A ∗ R) ⊢ wpK c (eachFrom p 0 8) (fun _ => iprop(bigSep Finset.univ B ∗ R)) := by
  have := wp_eachFrom c p A B R h 8 0 rfl
  rwa [bigSep_congr fun (j : Fin 8) _ => if_neg (Nat.not_lt_zero j.val)] at this

variable (v : Result F) (scs : Fin 8 → FVec F S32x512 .f32)

/-- Slot `k` when `n` points are done: no copy pending before the first point and after the last, the last copy pending
    in between. -/
def slotState (n : Nat) (k : Fin 8) : sProp 𝕄 := if n = 0 ∨ n = 8 then idle c v scs n k else busy c v scs n k

/-- The wait at the head of a slot's steps. -/
theorem wp_waitStep (i : grid0.Coords) (k : Fin 8) :
    iprop(slotState c v scs (i 0).val k ∗ owesNothing c)
      ⊢ wpK c (waitStep i resultRef scratchRef cc0_scratch1 k) (fun _ => iprop(idle c v scs (i 0).val k ∗ owesNothing c)) := by
  have hi : (i 0).val < 8 := (i 0).isLt
  unfold waitStep slotState
  by_cases h : laterBit i = 1#1
  · rw [dif_pos h, if_neg (by have := (laterBit_iff i).mp h; omega)]
    exact wp_waitAt c v scs (prevOff i k) (prevOff_inb i h k) (i 0).val k
  · rw [dif_neg h, if_pos (Or.inl (by by_contra h'; exact h ((laterBit_iff i).mpr h')))]
    exact wpK_pure c .rfl

/-- One slot's steps at a point: its new samples are on their way. -/
theorem wp_slotProg (i : grid0.Coords) (k : Fin 8) :
    iprop(slotState c v scs (i 0).val k ∗ owesNothing c)
      ⊢ wpK c (slotProg i resultRef scratchRef cc0_scratch1 (scs (i 0)) k)
        (fun _ => iprop(busy c v scs ((i 0).val + 1) k ∗ owesNothing c)) := by
  unfold slotProg
  refine wpK_bind c (wp_waitStep c v scs i k) fun _ => ?_
  rw [← Prog.bind_assoc (slabs scratchRef (scs (i 0)) k 0 512)]
  unfold idle
  have hf := wpK_frame c (R := iprop((semVal ((c : Thread nD τ), semLoc k) 0 ∗ colAt c k (mix v scs (i 0).val)) ∗ owesNothing c))
    (wp_fill c (scs (i 0)) k)
  refine wpK_bind c (BIBase.Entails.trans ?_ hf) fun _ => ?_
  · iintro ⟨⟨H1, H2, H3⟩, H4⟩
    isplitl [H3]; · iexact H3
    isplitr [H4]
    · isplitl [H1]; · iexact H1
      iexact H2
    iexact H4
  · iintro ⟨⟨%f, %hf, H3⟩, ⟨H1, H2⟩, H4⟩
    iapply (wpK_frame c (R := owesNothing c) (wp_startStep c v scs i k f hf)) $$ [H1 H2 H3 H4]
    isplitr [H4]
    · isplitl [H1]; · iexact H1
      isplitl [H2]; · iexact H2
      iexact H3
    iexact H4

/-- The waits at the end. -/
theorem wp_drainStep (i : grid0.Coords) :
    iprop(bigSep Finset.univ (busy c v scs ((i 0).val + 1)) ∗ owesNothing c)
      ⊢ wpK c (drainStep i resultRef scratchRef cc0_scratch1)
        (fun _ => iprop(bigSep Finset.univ (slotState c v scs ((i 0).val + 1)) ∗ owesNothing c)) := by
  have hi : (i 0).val < 8 := (i 0).isLt
  unfold drainStep
  split
  · next h =>
    have h7 := (lastBit_iff i).mp h
    have hs : slotState c v scs ((i 0).val + 1) = idle c v scs ((i 0).val + 1) := funext fun j => if_pos (Or.inr (by omega))
    rw [drainAll_eq, hs]
    exact wp_each c _ _ _ _ fun k => wp_waitAt c v scs ![0, 0, 0] first_inb _ k
  · next h =>
    have h7 : (i 0).val ≠ 7 := fun e => h ((lastBit_iff i).mpr e)
    have hs : slotState c v scs ((i 0).val + 1) = busy c v scs ((i 0).val + 1) := funext fun j => if_neg (by omega)
    rw [hs]
    exact wpK_pure c .rfl

/-- All slots' steps at a point and the waits at the end. -/
theorem wp_point (i : grid0.Coords) :
    iprop(bigSep Finset.univ (slotState c v scs (i 0).val) ∗ owesNothing c)
      ⊢ wpK c (slotsFrom i resultRef scratchRef cc0_scratch1 (scs (i 0)) 0 8 >>= fun _ => drainStep i resultRef scratchRef cc0_scratch1)
        (fun _ => iprop(bigSep Finset.univ (slotState c v scs ((i 0).val + 1)) ∗ owesNothing c)) := by
  rw [slotsFrom_eq]
  exact wpK_bind c (wp_each c _ _ _ _ fun k => wp_slotProg c v scs i k) fun _ => wp_drainStep c v scs i

/-- A fact among what is held, taken out. -/
theorem learned {φ : Prop} {P R Q : sProp 𝕄} (h : φ → (iprop(P ∗ R) ⊢ Q)) : iprop((⌜φ⌝ ∗ P) ∗ R) ⊢ Q := by
  iintro ⟨⟨%hφ, HP⟩, HR⟩
  iapply (h hφ) $$ [HP HR]
  isplitl [HP]; · iexact HP
  iexact HR

/-- The load of a whole block. -/
theorem wp_loadBlock {s : Shape} {e : EltTy} {sp : CoreSpace} (arg : Memref sig .tc sp s e) {off : Fin s.rank → Nat} (inb : ∀ a, off a + s.size a ≤ s.size a)
    (hl : arg.view.LoadsAt (Rect.unit (s := s) off s.size inb).toLoadRect) (x : s.Idx → Elt F e) :
    owns (c : Thread nD τ) arg fullShare x
      ⊢ wpK c (Prog.lift (.load arg (Rect.unit (s := s) off s.size inb).toLoadRect hl))
        (fun y => iprop(⌜y = x⌝ ∗ owns (c : Thread nD τ) arg fullShare x)) := by
  unfold owns Prog.lift
  iintro ⟨%f, %hf, H⟩
  have hS : arg.view.setOn (Rect.unit (s := s) off s.size inb).toLoadRect.set ⊆ arg.view.set := View.setOn_subset_set _ _
  iapply (wp_load Variants.none (c : Thread nD τ) none Set.univ (m := arg) (S := arg.view.set) (f := f) hS) $$ H
  iintro H
  iapply le_wp_ret
  isplitr
  · ipureintro; exact (View.readAt_full _ _ _).trans hf
  iexists f
  isplitr
  · ipureintro; exact hf
  iexact H

/-- The body at a point. -/
theorem wp_body (i : grid0.Coords) (arg1 : Memref sig .tc .vmem S1x512 .f32) (arg2 : Memref sig .tc .vmem S32x1x512 .f32)
    (g : Vec F S1x512 .f32) (z : Vec F S32x1x512 .f32) (hsc : scores g z = scs (i 0)) :
    iprop((owns (c : Thread nD τ) arg1 fullShare g ∗ owns (c : Thread nD τ) arg2 fullShare z)
        ∗ bigSep Finset.univ (slotState c v scs (i 0).val) ∗ owesNothing c)
      ⊢ wpK c (bodyProg i resultRef scratchRef cc0_scratch1 arg1 arg2)
        (fun _ => iprop((owns (c : Thread nD τ) arg1 fullShare g ∗ owns (c : Thread nD τ) arg2 fullShare z)
          ∗ bigSep Finset.univ (slotState c v scs ((i 0).val + 1)) ∗ owesNothing c)) := by
  unfold bodyProg
  refine wpK_bind c (BIBase.Entails.trans ?_ (wpK_frame c (R := iprop(owns (c : Thread nD τ) arg2 fullShare z
    ∗ bigSep Finset.univ (slotState c v scs (i 0).val) ∗ owesNothing c)) (wp_loadBlock c arg1 inb_S1x512_S1x512_0_0 (View.loadsAt_vmem h_S1x512) g)))
    fun y => learned fun hy => ?_
  · iintro ⟨⟨H1, H2⟩, H3⟩
    isplitl [H1]; · iexact H1
    isplitl [H2]; · iexact H2
    iexact H3
  refine wpK_bind c (BIBase.Entails.trans ?_ (wpK_frame c (R := iprop(owns (c : Thread nD τ) arg1 fullShare g
    ∗ bigSep Finset.univ (slotState c v scs (i 0).val) ∗ owesNothing c)) (wp_loadBlock c arg2 inb_S32x1x512_S32x1x512_0_0_0 (View.loadsAt_vmem h_S32x1x512) z)))
    fun y' => learned fun hy' => ?_
  · iintro ⟨H1, H2, H3⟩
    isplitl [H2]; · iexact H2
    isplitl [H1]; · iexact H1
    iexact H3
  rw [hy, hy', hsc]
  refine wpK_mono c (BIBase.Entails.trans ?_ (wpK_frame c (R := iprop(owns (c : Thread nD τ) arg1 fullShare g ∗ owns (c : Thread nD τ) arg2 fullShare z))
    (wp_point c v scs i))) fun _ => ?_
  · iintro ⟨H2, H1, H3⟩
    isplitl [H3]; · iexact H3
    isplitl [H1]; · iexact H1
    iexact H2
  · iintro ⟨H3, H1⟩
    isplitl [H1]; · iexact H1
    iexact H3

end

end Cert.KernelIdeal.Hand
end
-- ==== Proof.Run.lean ====
/- The launch: the grid's eight points one after the other, and what the whole program leaves. -/
module

public import proofs.«01_k».proof.Proof.Body

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UC sig nD τ) ℕ

variable (m : (ℓ : Loc nD τ sig) → Buf (Elt F) ℓ) (ρ : Dev nD → PrngReg)

/-! ## The scores and the result -/

/-- The grid's point number `n`. -/
def pointOf (n : Fin 8) : Fin cfg0.N := ⟨n.val, by have := n.isLt; rw [show cfg0.N = 8 from N_0]; exact this⟩

/-- The scores of each point's block, read off the arrays the region finds. -/
def blockScores (c : Dev nD) (n : Fin 8) : FVec F S32x512 .f32 := scores (iblk m c 0 (pointOf n)) (iblk m c 1 (pointOf n))

/-- The result array as the region finds it. -/
def entryOut (c : Dev nD) : Result F := V m c main_v2

/-- The unscoped buffers after the region: the result holds its values. -/
def exitBuf (c : Dev nD) (b : Ref sig .tc) : Buf (Elt F) ((c : Thread nD τ).loc b) :=
  if h : b = main_v2 then h ▸ (finalOut (blockScores m c) : Buf (Elt F) ((c : Thread nD τ).loc main_v2)) else V m c b

theorem exitBuf_main_v2 (c : Dev nD) : exitBuf m c main_v2 = finalOut (blockScores m c) := dif_pos rfl

/-- A point's coordinate is its number. -/
theorem coords_val (t : Fin cfg0.N) : (grid0.coords t 0).val = t.val := by
  have h : ∀ t : Fin grid0.N, (grid0.coords t 0).val = t.val := by decide +kernel
  exact h t

theorem pointOf_coords (t : Fin cfg0.N) : pointOf (grid0.coords t 0) = t := Fin.ext (coords_val t)

/-! ## The proof data -/

/-- The kernel's own semaphores lie among the kernel's scoped ones, one for each slot. -/
theorem ownSemFacts0 : Pipeline.OwnSemFacts spec0 semLoc := by decide +kernel

/-- The one pipeline's proof data on core `c`: the staged blocks stay as fetched; between the points the slots are in
    their states and the generator register is held. -/
def dats (_ : Fin 1) (c : Dev nD) : Dat τ (Elt F) Unit ℕ (Pipeline.UC sig nD τ) ℕ cfg0 c where
  A w := V m c (Pipeline.arrRef spec0 w)
  after w t := match w with
    | ⟨0, _⟩ => iblk m c 0 t
    | ⟨1, _⟩ => iblk m c 1 t
  Φ t := iprop(bigSep Finset.univ (slotState c (entryOut m c) (blockScores m c) t.val) ∗ ∃ r, prngReg c r)
  q _ := fullShare
  owed _ := 0

theorem A_eq (c : Dev nD) (w : Fin cfg0.W) : (dats m 0 c).A w = V m c (Pipeline.arrRef spec0 w) := by
  dsimp only [dats]

theorem after_first (c : Dev nD) (t : Fin cfg0.N) : (dats m 0 c).after 0 t = iblk m c 0 t := by
  dsimp only [dats]

theorem after_second (c : Dev nD) (t : Fin cfg0.N) : (dats m 0 c).after 1 t = iblk m c 1 t := by
  dsimp only [dats]

/-- The first window's staged block is its array's, fetched at the point or kept from an earlier one. -/
theorem before_first (c : Dev nD) (t : Fin cfg0.N) (d) : (dats m 0 c).before 0 t d = iblk m c 0 t :=
  ((dats m 0 c).before_in_eq_fetched 0 rfl (fun _ => rfl) (fun _ _ _ => rfl)
    (fun t => by rw [after_first]; unfold Dat.blockOf iblk; rw [A_eq]; try rfl) t d).trans
    (by unfold Dat.fetched Dat.blockOf iblk; rw [A_eq]; try rfl)

/-- The second window's staged block is its array's. -/
theorem before_second (c : Dev nD) (t : Fin cfg0.N) (d) : (dats m 0 c).before 1 t d = iblk m c 1 t :=
  ((dats m 0 c).before_in_eq_fetched 1 rfl (fun _ => rfl) (fun _ _ _ => rfl)
    (fun t => by rw [after_second]; unfold Dat.blockOf iblk; rw [A_eq]; try rfl) t d).trans
    (by unfold Dat.fetched Dat.blockOf iblk; rw [A_eq]; try rfl)

/-- What the body starts from at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- What the body leaves at a point. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at a point, from the slots' states before it to those after. -/
theorem sound_body (c : Dev nD) (t : Fin cfg0.N) :
    bodyPre m c t ⊢ wp frame (wpE (defs₀ (F := F)) Variants.none c none) Set.univ (bodyAt0 t) (fun _ => bodyPost m c t) := by
  have hsc : scores (iblk m c 0 t) (iblk m c 1 t) = blockScores m c (grid0.coords t 0) := by
    unfold blockScores; rw [pointOf_coords]
  have hb := wp_body c (entryOut m c) (blockScores m c) (grid0.coords t) (st0_0 t) (st0_1 t) (iblk m c 0 t) (iblk m c 1 t) hsc
  unfold bodyAt0
  rw [body_eq]
  have hf := wpK_frame c (R := iprop(∃ r, prngReg c r)) hb
  refine wpK_mono c (BIBase.Entails.trans ?_ hf) fun _ => ?_
  · unfold bodyPre owesNothing Dat.owesAt Pipeline.owesWithin
    rw [show (dats m 0 c).owed t.castSucc = 0 from rfl,
      show (dats m 0 c).Φ t.castSucc = iprop(bigSep Finset.univ (slotState c (entryOut m c) (blockScores m c) t.val) ∗ ∃ r, prngReg c r) from rfl,
      coords_val]
    have h0 : ∀ d, (owns (c : Thread nD τ) (st0_0 t) fullShare ((dats m 0 c).before 0 t d) : sProp 𝕄)
        = owns (c : Thread nD τ) (st0_0 t) fullShare (iblk m c 0 t) := fun d => by rw [before_first]
    have h1 : ∀ d, (owns (c : Thread nD τ) (st0_1 t) fullShare ((dats m 0 c).before 1 t d) : sProp 𝕄)
        = owns (c : Thread nD τ) (st0_1 t) fullShare (iblk m c 1 t) := fun d => by rw [before_second]
    iintro ⟨⟨HS, Hg⟩, ⟨%W, -, HW⟩, ⟨%d0, H0⟩, ⟨%d1, H1⟩⟩
    isplitr [Hg]
    · isplitl [H0 H1]
      · isplitl [H0]; · iapply (Entails.of_eq (h0 d0)) $$ H0
        iapply (Entails.of_eq (h1 d1)) $$ H1
      isplitl [HS]; · iexact HS
      iexists W; iexact HW
    iexact Hg
  · unfold bodyPost owesNothing Dat.owesAt Pipeline.owesWithin
    rw [show (dats m 0 c).owed t.succ = 0 from rfl, after_first, after_second,
      show (dats m 0 c).Φ t.succ = iprop(bigSep Finset.univ (slotState c (entryOut m c) (blockScores m c) (t.val + 1)) ∗ ∃ r, prngReg c r) from rfl,
      coords_val]
    iintro ⟨⟨⟨H0, H1⟩, HS, ⟨%W, HW⟩⟩, Hg⟩
    isplitl [HS Hg]
    · isplitl [HS]; · iexact HS
      iexact Hg
    isplitl [HW]
    · iexists W
      isplitr
      · ipureintro; exact fun _ _ => Or.inl trivial
      iexact HW
    isplitl [H0]; · iexact H0
    iexact H1

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The slots at the two ends -/

/-- A buffer held whole is held in eight parts that share no element and together hold every one. -/
theorem parts_split {ℓ : Loc nD τ sig} (I : Fin 8 → Finset (Idx ℓ)) (hd : ∀ k k' j, j ∈ I k → j ∈ I k' → k = k')
    (hc : ∀ j, ∃ k, j ∈ I k) (f : Buf (Elt F) ℓ) :
    (ℓ ↦{fullShare} f : sProp 𝕄) = bigSep Finset.univ fun k => ℓ ↦[I k]{fullShare} f :=
  Ring.pointsTo_blocks I (fun k k' h => Finset.disjoint_left.mpr fun j hj hj' => h (hd k k' j hj hj'))
    (Finset.eq_univ_iff_forall.mpr fun j => Finset.mem_biUnion.mpr ((hc j).imp fun k hk => ⟨Finset.mem_univ _, hk⟩)) f

/-- The parts at contents of their own are the whole at some contents. -/
theorem parts_join {ℓ : Loc nD τ sig} (I : Fin 8 → Finset (Idx ℓ)) (hd : ∀ k k' j, j ∈ I k → j ∈ I k' → k = k')
    (hc : ∀ j, ∃ k, j ∈ I k) (f₀ : Buf (Elt F) ℓ) :
    bigSep Finset.univ (fun k => iprop(∃ f, ℓ ↦[I k]{fullShare} f)) ⊢ (iprop(∃ f, ℓ ↦{fullShare} f) : sProp 𝕄) :=
  Ring.pointsTo_blocks_join_exists I (fun k k' h => Finset.disjoint_left.mpr fun j hj hj' => h (hd k k' j hj hj'))
    (Finset.eq_univ_iff_forall.mpr fun j => Finset.mem_biUnion.mpr ((hc j).imp fun k hk => ⟨Finset.mem_univ _, hk⟩)) f₀

/-- No element of the scratch is in two slots. -/
theorem slotSet_one (k k' : Fin 8) (j : S8x4x512x512.Idx) (h : j ∈ slotSet k) (h' : j ∈ slotSet k') : k = k' :=
  Fin.ext ((mem_slotSet.mp h).symm.trans (mem_slotSet.mp h'))

/-- Every element of the scratch is in a slot. -/
theorem slotSet_all (j : S8x4x512x512.Idx) : ∃ k, j ∈ slotSet k := ⟨j 0, mem_slotSet.mpr rfl⟩

/-- No element of the result is in two slots' parts. -/
theorem colSet_one (k k' : Fin 8) (j : S256x512x512.Idx) (h : j ∈ colSet k) (h' : j ∈ colSet k') : k = k' :=
  Fin.ext ((mem_colSet.mp h).symm.trans (mem_colSet.mp h'))

/-- Every element of the result is in a slot's part. -/
theorem colSet_all (j : S256x512x512.Idx) : ∃ k, j ∈ colSet k :=
  ⟨⟨(j 0).val / 4 % 8, Nat.mod_lt _ (by decide)⟩, mem_colSet.mpr rfl⟩

/-- The whole scratch is its slots. -/
theorem scratch_split (c : Dev nD) (f : Scratch F) :
    (((c : Thread nD τ).loc cc0_scratch0) ↦{fullShare} f : sProp 𝕄) = bigSep Finset.univ fun k => slotAt c k f :=
  parts_split (ℓ := (c : Thread nD τ).loc cc0_scratch0) slotSet slotSet_one slotSet_all f

/-- The whole result is its slots' parts. -/
theorem result_split (c : Dev nD) (f : Result F) :
    (((c : Thread nD τ).loc main_v2) ↦{fullShare} f : sProp 𝕄) = bigSep Finset.univ fun k => colAt c k f :=
  parts_split (ℓ := (c : Thread nD τ).loc main_v2) colSet colSet_one colSet_all f

/-- The slots with no copy pending are the semaphores at zero, the result and the scratch. -/
theorem idle_all (c : Dev nD) (v : Result F) (scs : Fin 8 → FVec F S32x512 .f32) (n : Nat) :
    bigSep Finset.univ (idle c v scs n)
      = iprop(bigSep Finset.univ (fun k => semVal ((c : Thread nD τ), semLoc k) 0)
        ∗ (((c : Thread nD τ).loc main_v2) ↦{fullShare} mix v scs n) ∗ bigSep Finset.univ fun k => iprop(∃ f, slotAt c k f)) := by
  rw [result_split]
  exact (BI.bigSep_sep _ _ _).trans (congrArg _ (BI.bigSep_sep _ _ _))

/-- Before the first point: the slots' states made of what the region finds. -/
theorem enter (c : Dev nD) :
    Pipeline.Ends spec0 semLoc {main_v2} c (V m c) ⊢ (dats m 0 c).Φ 0 := by
  have hs : slotState c (entryOut m c) (blockScores m c) 0 = idle c (entryOut m c) (blockScores m c) 0 :=
    funext fun j => if_pos (Or.inl rfl)
  rw [show (dats m 0 c).Φ 0 = iprop(bigSep Finset.univ (slotState c (entryOut m c) (blockScores m c) 0) ∗ ∃ r, prngReg c r) from rfl,
    hs, idle_all, mix_zero]
  unfold Pipeline.Ends Pipeline.ownSems0
  rw [Pipeline.routed_singleton, scopedRest0_eq]
  iintro ⟨HR, HQ, ⟨%f, HS⟩, Hg⟩
  isplitr [Hg]
  · isplitl [HQ]; · iexact HQ
    isplitl [HR]; · iexact HR
    have h1 : (((c : Thread nD τ).loc cc0_scratch0) ↦{fullShare} f : sProp 𝕄) ⊢ bigSep Finset.univ fun k => iprop(∃ f, slotAt c k f) := by
      rw [scratch_split]
      exact bigSep_mono fun k _ => (show slotAt c k f ⊢ iprop(∃ f, slotAt c k f) by iintro H; iexists f; iexact H)
    iapply h1 $$ HS
  iexact Hg

/-- After the last point: the slots' states give back what the region leaves. -/
theorem leave (c : Dev nD) :
    (dats m 0 c).Φ (Fin.last cfg0.N) ⊢ Pipeline.Ends spec0 semLoc {main_v2} c (exitBuf m c) := by
  have hN : cfg0.N = 8 := N_0
  have hs : slotState c (entryOut m c) (blockScores m c) 8 = idle c (entryOut m c) (blockScores m c) 8 :=
    funext fun j => if_pos (Or.inr rfl)
  rw [show (dats m 0 c).Φ (Fin.last cfg0.N) = iprop(bigSep Finset.univ (slotState c (entryOut m c) (blockScores m c) cfg0.N) ∗ ∃ r, prngReg c r) from rfl,
    hN, hs, idle_all, mix_all]
  unfold Pipeline.Ends Pipeline.ownSems0
  rw [Pipeline.routed_singleton, scopedRest0_eq, exitBuf_main_v2]
  have h1 : (bigSep Finset.univ fun k => iprop(∃ f, slotAt c k f) : sProp 𝕄)
      ⊢ iprop(∃ f : Scratch F, ((c : Thread nD τ).loc cc0_scratch0) ↦{fullShare} f) :=
    parts_join (ℓ := (c : Thread nD τ).loc cc0_scratch0) slotSet slotSet_one slotSet_all (fun _ => Scalar.ofBits .f32 0#32)
  iintro ⟨⟨HQ, HR, HS⟩, Hg⟩
  isplitl [HR]; · iexact HR
  isplitl [HQ]; · iexact HQ
  isplitl [HS]
  · iapply h1 $$ HS
  iexact Hg

/-! ## The run -/

/-- @main up to the region. -/
theorem hmain (𝒱₀ : Variants) : Pipeline.HMain (Ix := Unit) (Name := ℕ) (U := Pipeline.UC sig nD τ) (Lvl := ℕ) cfgs 0 defs₀ 𝒱₀ m (main (F := F)) (V m) :=
  Pipeline.hmain_prefix cfgs 0 defs₀ 𝒱₀ m main hostOps0 hostOps0_sub hostOps0_fresh main_chain

/-- What the program leaves: the result at its values, the arguments as launched, every semaphore at zero. -/
def Leaves (r : PUnit × MemSt nD τ sig (Elt F)) : Prop :=
  (∀ c : Dev nD, r.2.mem ((c.tc : Thread nD τ).loc main_v2) = finalOut (blockScores m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2))
  ∧ r.2.sem = fun _ => 0

theorem leaves_of (r : PUnit × MemSt nD τ sig (Elt F))
    (h : Pipeline.RoutedPost cfgs (dats m) 0 {main_v2} (V m) (exitBuf m) r ∧ r.2.sem = fun _ => 0) : Leaves m r := by
  have hmem : ∀ b : Ref sig .tc, b ≠ main_v2 → b ∈ Pipeline.restRefs sig spec0 → b ∈ Pipeline.restRefs sig spec0 \ {main_v2} :=
    fun b hb hr => Finset.mem_sdiff.mpr ⟨hr, fun h => hb (Finset.mem_singleton.mp h)⟩
  refine ⟨fun c => ⟨?_, ?_, ?_, ?_⟩, h.2⟩
  · exact ((h.1 c).2.1 main_v2 (Finset.mem_singleton_self _)).trans (exitBuf_main_v2 m c)
  · exact ((h.1 c).2.2 main_arg0 (hmem _ (by decide) (Pipeline.mem_restRefs_of main_arg0 (by decide) (by decide)))).trans (V_main_arg0 m c)
  · exact ((h.1 c).2.2 main_arg1 (hmem _ (by decide) (Pipeline.mem_restRefs_of main_arg1 (by decide) (by decide)))).trans (V_main_arg1 m c)
  · exact ((h.1 c).2.2 main_arg2 (hmem _ (by decide) (Pipeline.mem_restRefs_of main_arg2 (by decide) (by decide)))).trans (V_main_arg2 m c)

set_option backward.isDefEq.respectTransparency.types false in
/-- Every run of the program ends, and ends so. -/
theorem run_main : θ_run defs (onTc (τ := τ) (main (F := F))) (s₀ m ρ) (Leaves m) :=
  Pipeline.θ_run_frame_routed (Q' := _) cfgs (dats m) (0 : Fin 1) launch0 ownSemFacts0 defs₀ Variants.none m ρ main
    (hbody := fun c => (body_obligation m c).loose) (hshare := fun c => (dats m 0 c).share_full fun _ => rfl)
    (howed := fun _ _ => rfl) (V := V m) (hmain := hmain m Variants.none) (hA := A_eq m)
    (R := {main_v2}) (hR := by decide) (Y := exitBuf m) (hin := enter m) (hout := leave m) (hQ' := leaves_of m)

end Cert.KernelIdeal.Hand
end
-- ==== Proof.Frames.lean ====
/- The three frames: the kernel's over the extended reals and over machine words, and the reference's. -/
module

public import proofs.«01_k».proof.Proof.Run
public import proofs.«01_k».proof.Defs
public import proofs.«01_k».proof.Proof.Gen.Kernel
public import proofs.«01_k».proof.Proof.Gen.ReferenceIdeal.Run

@[expose] public section

set_option maxRecDepth 16384

noncomputable section

namespace Cert.Proof

open Idealize.ShloMosaic Idealize.SL.Sem

/-- The kernel over the extended reals ends, with its arguments as launched and every semaphore at zero. -/
theorem frame_ideal : Cert.quiescent_KernelIdeal (hKernelIdeal := Cert.KernelIdeal.Gen.facts) := fun m g _ =>
  (θ_run _ _ _).mono (fun _ h => ⟨fun c => (h.1 c).2, h.2⟩) (Cert.KernelIdeal.Hand.run_main (F := Ideal) m g)

/-- The kernel over machine words is the same text, and ends in the same way. -/
theorem frame_words : Cert.quiescent_Kernel (hKernel := Cert.Kernel.Gen.facts) := by
  intro m g _
  have h := (θ_run _ _ _).mono (fun _ h => ⟨fun c => (h.1 c).2, h.2⟩ :
      ∀ r, Cert.KernelIdeal.Hand.Leaves (F := Bits) m r → (∀ c, _) ∧ r.2.sem = fun _ => 0)
    (Cert.KernelIdeal.Hand.run_main (F := Bits) m g)
  refine Eq.mp ?_ h
  chain_rfl

/-- The reference ends, with its arguments as launched; it has no semaphore. -/
theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩)
    (Cert.ReferenceIdeal.Value.run (F := Ideal) m g)

end Cert.Proof
end
-- ==== Proof.Ranks.lean ====
/- Counting ranks in a finite sequence of scores: the strict rank, the tie-broken rank, how their
   sums tell whether they agree, and the place a stable sort gives an element. -/
module

public import Idealize.ShloMosaic.Lib.SortFacts
public import Mathlib.Algebra.BigOperators.Fin
public import Mathlib.Algebra.Order.BigOperators.Group.Finset
public import Mathlib.Order.Interval.Finset.Fin

@[expose] public section

namespace Cert.Ranks

open Idealize.ShloMosaic

variable {n : Nat} {α : Type} [LinearOrder α]

/-- Position `a` comes before position `b`: a smaller score, or an equal score further to the left. -/
def Before (x : Fin n → α) (a b : Fin n) : Prop := x a < x b ∨ (x a = x b ∧ a < b)

instance (x : Fin n → α) (a b : Fin n) : Decidable (Before x a b) := by unfold Before; infer_instance

/-- How many scores are strictly smaller than position `b`'s. -/
def strictRank (x : Fin n → α) (b : Fin n) : Nat := (Finset.univ.filter fun a => x a < x b).card

/-- How many positions come before position `b`. -/
def rank (x : Fin n → α) (b : Fin n) : Nat := (Finset.univ.filter fun a => Before x a b).card

/-- Coming before is transitive. -/
theorem Before.trans {x : Fin n → α} {a b c : Fin n} (h₁ : Before x a b) (h₂ : Before x b c) : Before x a c := by
  rcases h₁ with h₁ | ⟨e₁, l₁⟩ <;> rcases h₂ with h₂ | ⟨e₂, l₂⟩
  · exact Or.inl (h₁.trans h₂)
  · exact Or.inl (e₂ ▸ h₁)
  · exact Or.inl (e₁ ▸ h₂)
  · exact Or.inr ⟨e₁.trans e₂, l₁.trans l₂⟩

/-- No position comes before itself. -/
theorem not_before_self (x : Fin n → α) (a : Fin n) : ¬ Before x a a := by
  rintro (h | ⟨_, h⟩) <;> exact lt_irrefl _ h

/-- Of two different positions one comes before the other. -/
theorem before_or_before (x : Fin n → α) {a b : Fin n} (h : a ≠ b) : Before x a b ∨ Before x b a := by
  rcases lt_trichotomy (x a) (x b) with hx | hx | hx
  · exact Or.inl (Or.inl hx)
  · rcases lt_or_gt_of_ne h with hl | hl
    · exact Or.inl (Or.inr ⟨hx, hl⟩)
    · exact Or.inr (Or.inr ⟨hx.symm, hl⟩)
  · exact Or.inr (Or.inl hx)

/-- If `a` comes before `b` then `b` does not come before `a`. -/
theorem Before.asymm {x : Fin n → α} {a b : Fin n} (h : Before x a b) : ¬ Before x b a :=
  fun h' => not_before_self x a (h.trans h')

/-- A strictly smaller score comes before, so the strict rank is at most the rank. -/
theorem strictRank_le_rank (x : Fin n → α) (b : Fin n) : strictRank x b ≤ rank x b :=
  Finset.card_le_card fun a ha => by
    simp only [Finset.mem_filter, Finset.mem_univ, true_and] at ha ⊢
    exact Or.inl ha

/-- A rank is less than the number of positions. -/
theorem rank_lt (x : Fin n → α) (b : Fin n) : rank x b < n := by
  have h : (Finset.univ.filter fun a => Before x a b).card < (Finset.univ : Finset (Fin n)).card :=
    Finset.card_lt_card (Finset.filter_ssubset.mpr ⟨b, Finset.mem_univ b, not_before_self x b⟩)
  simpa [rank] using h

/-- A strict rank is less than the number of positions. -/
theorem strictRank_lt (x : Fin n → α) (b : Fin n) : strictRank x b < n :=
  lt_of_le_of_lt (strictRank_le_rank x b) (rank_lt x b)

/-- Every pair of different positions is counted once by the ranks: twice their sum is `n * n - n`. -/
theorem two_mul_sum_rank (x : Fin n → α) : 2 * ∑ b, rank x b + n = n * n := by
  have h1 : ∀ b, rank x b = ∑ a, if Before x a b then 1 else 0 := fun b => by
    simp [rank, Finset.sum_boole]
  have h2 : ∑ b, rank x b = ∑ b, ∑ a, if Before x b a then 1 else 0 := by
    simp only [h1]; exact Finset.sum_comm
  have h3 : ∀ b : Fin n, (∑ a, if Before x a b then 1 else 0) + (∑ a, if Before x b a then 1 else 0)
      + (∑ a, if a = b then 1 else 0) = n := fun b => by
    rw [← Finset.sum_add_distrib, ← Finset.sum_add_distrib]
    calc _ = ∑ _a : Fin n, 1 := Finset.sum_congr rfl fun a _ => by
          by_cases e : a = b
          · subst e; simp [not_before_self]
          · rcases before_or_before x e with h | h
            · simp [h, h.asymm, e]
            · simp [h, h.asymm, e]
      _ = n := by simp
  have h4 := Finset.sum_congr (rfl : (Finset.univ : Finset (Fin n)) = Finset.univ) fun b _ => h3 b
  rw [Finset.sum_add_distrib, Finset.sum_add_distrib, ← h2] at h4
  simp only [← h1] at h4
  simp at h4
  omega

/-- If the strict ranks of a family of sequences sum to what their ranks sum to, they are the ranks. -/
theorem strictRank_eq_rank_of_sum {m : Nat} (x : Fin m → Fin n → α)
    (h : ∑ t, ∑ b, strictRank (x t) b = ∑ t, ∑ b, rank (x t) b) (t : Fin m) (b : Fin n) :
    strictRank (x t) b = rank (x t) b := by
  have h1 := (Finset.sum_eq_sum_iff_of_le fun t _ =>
    Finset.sum_le_sum fun b _ => strictRank_le_rank (x t) b).mp h t (Finset.mem_univ t)
  exact (Finset.sum_eq_sum_iff_of_le fun b _ => strictRank_le_rank (x t) b).mp h1 b (Finset.mem_univ b)

/-! ## The stable sort -/

/-- The stable sort's comparison of two positions: the scores alone. -/
def less (x : Fin n → α) (a b : Fin n) : Bool := decide (x a < x b)

/-- Inserting a position left of all of a list's keeps the list in order. -/
theorem pairwise_insert (x : Fin n → α) (a : Fin n) (l : List (Fin n)) (hl : l.Pairwise (Before x))
    (ha : ∀ b ∈ l, a < b) : (insertBefore (less x) a l).Pairwise (Before x) := by
  induction l with
  | nil => exact List.pairwise_singleton _ _
  | cons b l ih =>
    rw [List.pairwise_cons] at hl
    unfold insertBefore
    split
    · rename_i h
      refine List.pairwise_cons.mpr ⟨fun c hc => ?_, ih hl.2 fun c hc => ha c (List.mem_cons_of_mem _ hc)⟩
      rcases List.mem_cons.mp ((perm_insertBefore _ a l).mem_iff.mp hc) with rfl | hc
      · exact Or.inl (of_decide_eq_true h)
      · exact hl.1 c hc
    · rename_i h
      have hab : Before x a b := by
        rcases lt_or_eq_of_le (not_lt.mp fun hb => h (decide_eq_true hb)) with hx | hx
        · exact Or.inl hx
        · exact Or.inr ⟨hx, ha b List.mem_cons_self⟩
      refine List.pairwise_cons.mpr ⟨fun c hc => ?_, List.pairwise_cons.mpr hl⟩
      rcases List.mem_cons.mp hc with rfl | hc
      · exact hab
      · exact hab.trans (hl.1 c hc)

/-- The stable sort of positions listed from left to right is in order. -/
theorem pairwise_sorted (x : Fin n → α) (l : List (Fin n)) (hl : l.Pairwise (· < ·)) :
    (stableSort (less x) l).Pairwise (Before x) := by
  induction l with
  | nil => exact List.Pairwise.nil
  | cons a l ih =>
    rw [List.pairwise_cons] at hl
    exact pairwise_insert x a _ (ih hl.2) fun b hb => hl.1 b ((perm_stableSort _ l).mem_iff.mp hb)

/-- The positions the stable sort takes from come one before the other. -/
theorem sortedFrom_before (x : Fin n → α) {i j : Fin n} (h : i < j) :
    Before x (sortedFrom (less x) i) (sortedFrom (less x) j) := by
  have hp : ∀ a b : Fin (sortPositions n (less x)).length, a < b →
      Before x ((sortPositions n (less x)).get a) ((sortPositions n (less x)).get b) :=
    List.pairwise_iff_get.mp (pairwise_sorted x (List.finRange n) (List.pairwise_lt_finRange n))
  unfold sortedFrom
  exact hp _ _ (by simp only [Fin.lt_def, Fin.val_cast]; exact h)

/-- The position the stable sort takes its `i`-th element from has rank `i`. -/
theorem rank_sortedFrom (x : Fin n → α) (i : Fin n) : rank x (sortedFrom (less x) i) = i.val := by
  have hset : (Finset.univ.filter fun a => Before x a (sortedFrom (less x) i))
      = (Finset.Iio i).image (sortedFrom (less x)) := by
    ext a
    simp only [Finset.mem_filter, Finset.mem_univ, true_and, Finset.mem_image, Finset.mem_Iio]
    constructor
    · intro h
      obtain ⟨j, rfl⟩ := sortedFrom_surjective (less x) a
      refine ⟨j, ?_, rfl⟩
      by_contra hj
      rcases eq_or_lt_of_le (not_lt.mp hj) with e | hl
      · subst e; exact not_before_self x _ h
      · exact h.asymm (sortedFrom_before x hl)
    · rintro ⟨j, hj, rfl⟩
      exact sortedFrom_before x hj
  rw [rank, hset, Finset.card_image_of_injective _ (sortedFrom_injective _), Fin.card_Iio]

/-- The stable sort takes its `i`-th element from position `b` exactly when `b`'s rank is `i`. -/
theorem sortedFrom_eq_iff (x : Fin n → α) (i b : Fin n) : sortedFrom (less x) i = b ↔ rank x b = i.val := by
  constructor
  · rintro rfl; exact rank_sortedFrom x i
  · intro h
    obtain ⟨j, rfl⟩ := sortedFrom_surjective (less x) b
    rw [rank_sortedFrom] at h
    exact congrArg _ (Fin.ext h.symm)

end Cert.Ranks
-- ==== Proof.Answer.lean ====
/- The answer both programs are shown to compute, as a function of the column offsets and the noise. -/
module

public import proofs.«01_k».proof.Proof.Ranks
public import Idealize.ShloMosaic.Lib.Pointwise

@[expose] public section

noncomputable section

namespace Cert.Answer

open Idealize.ShloMosaic
open Cert.Ranks

/-- Sample `r`'s score in column `b`: the column's offset plus the sample's noise. -/
def scoreOf (g : (⟨1, ![512]⟩ : Shape).Idx → EReal) (z : (⟨2, ![256, 512]⟩ : Shape).Idx → EReal) (r : Fin 256)
    (b : Fin 512) : EReal :=
  g (ix1 b) + z (ix2 r b)

/-- The permutation matrices: sample `r`'s entry in row `a`, column `b` is one where the column's rank among the
    sample's scores is `a`, and zero elsewhere. -/
def answer (g : (⟨1, ![512]⟩ : Shape).Idx → EReal) (z : (⟨2, ![256, 512]⟩ : Shape).Idx → EReal) (r : Fin 256)
    (a b : Fin 512) : EReal :=
  if rank (scoreOf g z r) b = a.val then 1 else 0

/-- The words of two small numbers are equal exactly when the numbers are. -/
theorem cmpi_eq_small {x y : Nat} (hx : x < 512) (hy : y < 512) :
    IntOp.cmpi .eq (BitVec.ofNat 32 x) (BitVec.ofNat 32 y) = BitVec.ofBool (decide (x = y)) := by
  show BitVec.ofBool (_ == _) = _
  congr 1
  rw [Bool.eq_iff_iff]
  simp only [beq_iff_eq, decide_eq_true_eq]
  constructor
  · intro h
    have h := congrArg BitVec.toNat h
    simp only [BitVec.toNat_ofNat] at h
    omega
  · rintro rfl; rfl

end Cert.Answer
-- ==== Proof.BlockValue.lean ====
/- What the kernel computes of one block's scores, over the extended reals. -/
module

public import proofs.«01_k».proof.Proof.Run
public import proofs.«01_k».proof.Proof.Answer
public import Idealize.ShloMosaic.Lib.Pointwise
public import Idealize.ShloMosaic.Lib.IdealHost

@[expose] public section

set_option maxRecDepth 16384

noncomputable section

namespace Cert.KernelIdeal.Hand

open Idealize.ShloMosaic
open Cert.KernelIdeal Cert.KernelIdeal.Gen
open Cert.Ranks Cert.Answer

/-- Sample `s`'s scores in a block. -/
def sampleScores (sc : FVec Ideal S32x512 .f32) (s : Fin 32) (b : Fin 512) : EReal := sc (ix2 s b)

/-- The fast count of a column is its strict rank. -/
theorem fastRank_apply (sc : FVec Ideal S32x512 .f32) (s : Fin 32) (b : Fin 512) :
    fastRank sc s (ix2 0 b) = ((strictRank (sampleScores sc s) b : Nat) : EReal) := by
  unfold fastRank onesRow lessThan colOf rowOf transposed
  pointwise
  exact Finset.sum_boole _ _

/-- The order of two small words is the order of their numbers. -/
theorem slt_small : ∀ a b : Fin 512, IntOp.cmpi .slt (BitVec.ofNat 32 a.val) (BitVec.ofNat 32 b.val) = BitVec.ofBool (decide (a < b)) := by
  intro a b
  have ha := a.isLt
  have hb := b.isLt
  show BitVec.ofBool (BitVec.slt _ _) = _
  congr 1
  rw [BitVec.slt_eq_decide, BitVec.toInt_eq_toNat_of_lt (by simp; omega), BitVec.toInt_eq_toNat_of_lt (by simp; omega)]
  simp only [BitVec.toNat_ofNat, Fin.lt_def]
  rw [Nat.mod_eq_of_lt (by omega), Nat.mod_eq_of_lt (by omega)]
  simp

/-- The weight the full count gives a pair: one where the first comes before the second. -/
theorem weight_eq (x y : EReal) (a b : Fin 512) :
    (if x ≤ y then
        if x = y then
          Scalar.select (IntOp.cmpi .slt (BitVec.ofNat 32 a.val) (BitVec.ofNat 32 b.val)) (1 : EReal) 0
        else 1
      else 0) = if x < y ∨ (x = y ∧ a < b) then 1 else 0 := by
  rw [slt_small]
  rcases lt_trichotomy x y with h | h | h
  · simp [h, h.le, h.ne]
  · subst h
    by_cases hl : a < b
    · simp [hl, Scalar.select]
    · simp [hl, Scalar.select]
  · simp [h.not_ge, h.not_gt, h.ne']

/-- The full count of a column is its tie-broken rank. -/
theorem fullRank_apply (sc : FVec Ideal S32x512 .f32) (s : Fin 32) (b : Fin 512) :
    fullRank sc s (ix2 0 b) = ((rank (sampleScores sc s) b : Nat) : EReal) := by
  unfold fullRank onesRow colOf rowOf transposed
  pointwise
  refine Eq.trans (Finset.sum_congr rfl fun a _ => ?_) (Finset.sum_boole (fun a => Before (sampleScores sc s) a b) _)
  exact weight_eq _ _ a b

/-- The sum of a row over the extended reals. -/
theorem rowSum_eq (r : FVec Ideal S1x512 .f32) : rowSum r = ∑ b : Fin 512, r (ix2 0 b) := by
  unfold rowSum
  pointwise
  exact Fintype.sum_unique _

/-- The number the slot's total is compared with. -/
theorem ofBits_total : Ideal.ofBits .f32 0x48FF8000#32 = ((523264 : Nat) : EReal) := by
  rw [show ((523264 : Nat) : EReal) = ((523264 : ℝ) : EReal) by norm_cast]
  simp [Ideal.ofBits, Ideal.ieee, -EReal.coe_mul]; norm_num

/-- The conversion of a small number to a word. -/
theorem fptosi_natCast (m : Nat) (h : m < 512) : Ideal.fptosi 32 (m : EReal) = BitVec.ofNat 32 m := by
  rw [show ((m : Nat) : EReal) = ((m : ℝ) : EReal) by norm_cast]
  unfold Ideal.fptosi
  rw [show Ideal.toIntClamped (-(2 ^ (32 - 1) : Nat)) ((2 ^ (32 - 1) : Nat) - 1) ((m : ℝ) : EReal) = (m : Int) by
    show max _ (min _ (if (0 : ℝ) ≤ (m : ℝ) then ⌊(m : ℝ)⌋ else ⌈(m : ℝ)⌉)) = _
    rw [if_pos (Nat.cast_nonneg m), Int.floor_natCast]
    norm_num
    omega]
  rfl

/-- The three low bits of a small number's word are its remainder modulo eight. -/
theorem andi_seven (m : Fin 512) : IntOp.andi (BitVec.ofNat 32 m.val) 7#32 = BitVec.ofNat 32 (m.val % 8) := by
  revert m; decide +kernel

/-- A small number's word shifted right by three is its quotient by eight. -/
theorem shrui_three (m : Fin 512) : IntOp.shrui .vector (BitVec.ofNat 32 m.val) 3#32 = BitVec.ofNat 32 (m.val / 8) := by
  revert m; decide +kernel

/-- A fast row's entry: one where the column's strict rank is the entry's row, zero elsewhere. -/
theorem fastRows_apply (sc : FVec Ideal S32x512 .f32) (s : Fin 32) (a b : Fin 512) :
    fastRows sc s (a.val / 8) (ix2 ⟨a.val % 8, Nat.mod_lt _ (by decide)⟩ b)
      = if strictRank (sampleScores sc s) b = a.val then 1 else 0 := by
  unfold fastRows onesAt hit hitOf subHit rankQ iota8
  pointwise
  rw [fastRank_apply]
  have hr := strictRank_lt (sampleScores sc s) b
  generalize strictRank (sampleScores sc s) b = r at hr
  have ha := a.isLt
  show Scalar.select (IntOp.andi (IntOp.cmpi .eq _ (IntOp.andi (Ideal.fptosi 32 (r : EReal)) _))
    (IntOp.cmpi .eq (IntOp.shrui .vector (Ideal.fptosi 32 (r : EReal)) _) _)) (1 : EReal) 0 = _
  rw [fptosi_natCast r hr, andi_seven ⟨r, hr⟩, shrui_three ⟨r, hr⟩, cmpi_eq_small (by omega) (by dsimp only; omega),
    cmpi_eq_small (by dsimp only; omega) (by omega)]
  by_cases h : r = a.val
  · subst h; simp [Scalar.select, IntOp.andi]
  · rw [if_neg h]
    by_cases h1 : a.val % 8 = r % 8
    · have h2 : ¬ r / 8 = a.val / 8 := by omega
      simp [h1, h2, Scalar.select, IntOp.andi]
    · simp [h1, Scalar.select, IntOp.andi]

/-- A small number's word converted to a float is the number. -/
theorem sitofp_small (m : Nat) (h : m < 512) : (FloatOps.sitofp .f32 (BitVec.ofNat 32 m) : Ideal .f32) = ((m : Nat) : EReal) := by
  show (((BitVec.ofNat 32 m).toInt : ℝ) : EReal) = _
  rw [BitVec.toInt_eq_toNat_of_lt (by simp; omega), BitVec.toNat_ofNat, Nat.mod_eq_of_lt (by omega)]
  norm_cast

/-- A full matrix's entry: one where the column's tie-broken rank is the entry's row, zero elsewhere. -/
theorem fullRows_apply (sc : FVec Ideal S32x512 .f32) (s : Fin 32) (a b : Fin 512) :
    fullRows sc s (ix2 a b) = if rank (sampleScores sc s) b = a.val then 1 else 0 := by
  unfold fullRows
  pointwise
  rw [fullRank_apply, sitofp_small a.val a.isLt]
  generalize rank (sampleScores sc s) b = r
  have h0 : (FloatOps.sitofp .f32 (0#32) : Ideal .f32) = 0 := (sitofp_small 0 (by decide)).trans Nat.cast_zero
  have h1 : (FloatOps.sitofp .f32 (1#32) : Ideal .f32) = 1 := (sitofp_small 1 (by decide)).trans Nat.cast_one
  by_cases h : r = a.val
  · subst h
    simpa using h1
  · have h' : ¬ ((a.val : Nat) : EReal) = ((r : Nat) : EReal) := fun e => h (by exact_mod_cast e.symm)
    rw [if_neg h, decide_eq_false h']
    exact h0

/-- A slot's total over the extended reals: the sum of its samples' strict ranks. -/
theorem totalUpTo_eq (sc : FVec Ideal S32x512 .f32) (k : Fin 8) :
    totalUpTo sc k 4 = ((∑ t : Fin 4, ∑ b, strictRank (sampleScores sc (sampleOf k t)) b : Nat) : EReal) := by
  have hs : ∀ t : Fin 4, (⟨(4 * k.val + t.val) % 32, Nat.mod_lt _ (by decide)⟩ : Fin 32) = sampleOf k t := fun t =>
    Fin.ext (Nat.mod_eq_of_lt (by have := k.isLt; have := t.isLt; omega))
  have hz : (Scalar.ofBits .f32 0x00000000#32 : Ideal .f32) = 0 := Ideal.ofBits_zero_f32
  simp only [totalUpTo, rowSum_eq, fastRank_apply, hz]
  rw [show (⟨(4 * k.val + 0) % 32, _⟩ : Fin 32) = sampleOf k 0 from hs 0, show (⟨(4 * k.val + 1) % 32, _⟩ : Fin 32) = sampleOf k 1 from hs 1,
    show (⟨(4 * k.val + 2) % 32, _⟩ : Fin 32) = sampleOf k 2 from hs 2, show (⟨(4 * k.val + 3) % 32, _⟩ : Fin 32) = sampleOf k 3 from hs 3]
  rw [Fin.sum_univ_four]
  push_cast
  show (0 : EReal) + _ + _ + _ + _ = _
  rw [zero_add]

/-- The tie bit is clear exactly when the slot's total is the total without ties. -/
theorem tieBit_eq (m : Nat) : tieBit (F := Ideal) ((m : Nat) : EReal) = BitVec.ofBool (decide (m ≠ 523264)) := by
  have hc : Scalar.cmpf (F := Ideal) (φ := .f32) .one ((m : Nat) : EReal) (Scalar.ofBits .f32 0x48FF8000#32)
      = BitVec.ofBool (decide (m ≠ 523264)) := by
    show BitVec.ofBool (decide (((m : Nat) : EReal) ≠ Ideal.ofBits .f32 0x48FF8000#32)) = _
    rw [ofBits_total]
    congr 1
    exact decide_eq_decide.mpr (not_congr Nat.cast_inj)
  unfold tieBit
  rw [hc]
  by_cases h : m = 523264
  · simp only [h]; decide
  · simp only [decide_eq_true h]; decide

/-- If a slot's tie bit is clear, its samples' strict ranks are their tie-broken ranks. -/
theorem strictRank_eq_rank (sc : FVec Ideal S32x512 .f32) (k : Fin 8) (h : ¬ tieBit (totalUpTo sc k 4) = 1#1)
    (t : Fin 4) (b : Fin 512) :
    strictRank (sampleScores sc (sampleOf k t)) b = rank (sampleScores sc (sampleOf k t)) b := by
  rw [totalUpTo_eq, tieBit_eq] at h
  have h' : ∑ t : Fin 4, ∑ b, strictRank (sampleScores sc (sampleOf k t)) b = 523264 := by
    by_contra hn
    exact h (by rw [decide_eq_true hn]; rfl)
  refine strictRank_eq_rank_of_sum (fun t => sampleScores sc (sampleOf k t)) (h'.trans ?_) t b
  have hr : ∀ t : Fin 4, ∑ b, rank (sampleScores sc (sampleOf k t)) b = 130816 := fun t => by
    have := two_mul_sum_rank (sampleScores sc (sampleOf k t))
    omega
  simp only [hr]
  rfl

/-- Every entry of a sample the kernel leaves: one where the column's tie-broken rank is the entry's row, zero elsewhere. -/
theorem sampleOut_eq (sc : FVec Ideal S32x512 .f32) (k : Fin 8) (t : Fin 4) (a b : Fin 512) :
    sampleOut sc k t a b = if rank (sampleScores sc (sampleOf k t)) b = a.val then 1 else 0 := by
  unfold sampleOut
  split
  · exact fullRows_apply sc _ a b
  · rename_i h
    exact (fastRows_apply sc _ a b).trans (by rw [strictRank_eq_rank sc k h t b])

end Cert.KernelIdeal.Hand
-- ==== Proof.ArrayValue.lean ====
/- The scores each point reads, and what the result array holds, over the extended reals. -/
module

public import proofs.«01_k».proof.Proof.BlockValue
public import Idealize.ShloMosaic.Lib.Claim
public import Idealize.ShloMosaic.Lib.Pipeline.ValueKit.Point

@[expose] public section

set_option maxRecDepth 16384

noncomputable section

namespace Cert.KernelIdeal.Hand

open Idealize.ShloMosaic Idealize.ShloMosaic.TcCoe
open Cert.KernelIdeal Cert.KernelIdeal.Gen
open Cert.Ranks Cert.Answer

variable (m : (ℓ : Loc nD τ sig) → Buf (Elt Ideal) ℓ)

/-- The second window's block index at a point is the point's number, and zero along the other axes. -/
theorem index_noise : ∀ t : Fin cfg0.N, (cfg0.win 1).index t 0 = t.val ∧ (cfg0.win 1).index t 1 = 0 ∧ (cfg0.win 1).index t 2 = 0 := by
  decide +kernel

/-- The first window's block index is zero at every point. -/
theorem index_offset : ∀ t : Fin cfg0.N, (cfg0.win 0).index t 0 = 0 ∧ (cfg0.win 0).index t 1 = 0 := by
  decide +kernel

/-- The first window's block is the column offsets. -/
theorem iblk_offset (c : Dev nD) (t : Fin cfg0.N) (b : Fin 512) :
    iblk m c 0 t (ix2 0 b) = m ((c : Thread nD τ).loc main_arg1) (ix1 b) := by
  blk_ext! [iblk, V, (index_offset t).1, (index_offset t).2]

/-- The second window's block at a point is that point's thirty-two samples of the noise. -/
theorem iblk_noise (c : Dev nD) (n : Fin 8) (r : Fin 32) (b : Fin 512) :
    iblk m c 1 (pointOf n) (ix3 r 0 b) = m ((c : Thread nD τ).loc main_arg2) (ix2 ⟨32 * n.val + r.val, by omega⟩ b) := by
  blk_ext! [iblk, V, (index_noise (pointOf n)).1, (index_noise (pointOf n)).2.1, (index_noise (pointOf n)).2.2]
  show n.val * 32 + r.val = 32 * n.val + r.val
  omega

/-- A block's scores are those of its thirty-two samples. -/
theorem sampleScores_blockScores (c : Dev nD) (n : Fin 8) (r : Fin 32) :
    sampleScores (blockScores m c n) r
      = scoreOf (m ((c : Thread nD τ).loc main_arg1)) (m ((c : Thread nD τ).loc main_arg2)) ⟨32 * n.val + r.val, by omega⟩ := by
  funext b
  unfold sampleScores blockScores scores scoreOf
  pointwise
  rw [iblk_offset, iblk_noise]

/-- What the kernel's result holds: the permutation matrices. -/
theorem finalOut_apply (c : Dev nD) (r : Fin 256) (a b : Fin 512) :
    finalOut (blockScores m c) (ix3 r a b)
      = answer (m ((c : Thread nD τ).loc main_arg1)) (m ((c : Thread nD τ).loc main_arg2)) r a b := by
  refine (sampleOut_eq _ _ _ a b).trans ?_
  rw [sampleScores_blockScores]
  have hr : (⟨32 * (r.val / 32) + (4 * (r.val / 4 % 8) + r.val % 4), by omega⟩ : Fin 256) = r := Fin.ext (by dsimp only; omega)
  exact congrArg (fun r => answer (m ((c : Thread nD τ).loc main_arg1)) (m ((c : Thread nD τ).loc main_arg2)) r a b) hr

end Cert.KernelIdeal.Hand
-- ==== Proof.RefValue.lean ====
/- What the reference computes, over the extended reals: the permutation matrices of a stable sort. -/
module

public import proofs.«01_k».proof.Proof.Gen.ReferenceIdeal.Run
public import proofs.«01_k».proof.Proof.Answer
public import Idealize.ShloMosaic.Lib.IdealHost

@[expose] public section

noncomputable section

namespace Cert.ReferenceIdeal.Hand

open Idealize.ShloMosaic Idealize.ShloMosaic.TcCoe Idealize.SL.Sem
open Cert.ReferenceIdeal Cert.ReferenceIdeal.Gen
open Cert.Ranks Cert.Answer

/-- A score the comparator has normalised is the score: no extended real differs from itself, and a zero is zero. -/
theorem normalised (x : EReal) :
    Scalar.select (FloatOps.cmpf (F := Ideal) (φ := .f32) .une x x) (FloatOps.ofBits .f32 0x7FC00000#32 : Ideal .f32)
      (Scalar.select (FloatOps.cmpf (F := Ideal) (φ := .f32) .oeq x (FloatOps.ofBits .f32 0x00000000#32))
        (FloatOps.ofBits .f32 0x00000000#32 : Ideal .f32) x) = x := by
  have hz : (FloatOps.ofBits .f32 0x00000000#32 : Ideal .f32) = (0 : EReal) := Ideal.ofBits_zero_f32
  rw [Ideal.cmpf_def, Ideal.cmpf_def, hz]
  by_cases h : x = 0
  · subst h; simp [Ideal.cmp, Scalar.select]
  · simp [Ideal.cmp, Scalar.select, h]

/-- The sort's comparator compares the scores alone. -/
theorem comparator_eq (l r : EReal × BitVec 32) :
    comparator_f32_i32_d1 (F := Ideal) l r = BitVec.ofBool (decide (l.1 < r.1)) := by
  have h : comparator_f32_i32_d1 (F := Ideal) l r = FloatOps.cmpfTotal (F := Ideal) (φ := .f32) .lt
      (Scalar.select (FloatOps.cmpf (F := Ideal) (φ := .f32) .une l.1 l.1) (FloatOps.ofBits .f32 0x7FC00000#32 : Ideal .f32)
        (Scalar.select (FloatOps.cmpf (F := Ideal) (φ := .f32) .oeq l.1 (FloatOps.ofBits .f32 0x00000000#32))
          (FloatOps.ofBits .f32 0x00000000#32 : Ideal .f32) l.1))
      (Scalar.select (FloatOps.cmpf (F := Ideal) (φ := .f32) .une r.1 r.1) (FloatOps.ofBits .f32 0x7FC00000#32 : Ideal .f32)
        (Scalar.select (FloatOps.cmpf (F := Ideal) (φ := .f32) .oeq r.1 (FloatOps.ofBits .f32 0x00000000#32))
          (FloatOps.ofBits .f32 0x00000000#32 : Ideal .f32) r.1)) := rfl
  rw [h, normalised, normalised]
  rfl

/-- The sorted column numbers: row `a` of a sample holds the position the stable sort of its scores takes
    its `a`-th element from. -/
theorem sort_apply (x : FVec Ideal S256x512 .f32) (r : Fin 256) (a : Fin 512) :
    (Host.sort2 S256x512 1 (comparator_f32_i32_d1 (F := Ideal)) x (iotaInDim S256x512 32 1)).2 (ix2 r a)
      = BitVec.ofNat 32 (sortedFrom (less fun b => x (ix2 r b)) a).val := by
  have halong : ∀ k : Fin 512, (Shape.Idx.along (ix2 r a : S256x512.Idx) 1 k) = ix2 r k := fun k => by
    funext i; fin_cases i <;> rfl
  have hiota : ∀ k : Fin 512, iotaInDim S256x512 32 1 ((ix2 r a : S256x512.Idx).along 1 k) = BitVec.ofNat 32 k.val :=
    fun k => by rw [halong]; rfl
  have hB : (fun k k' : Fin 512 => comparator_f32_i32_d1 (F := Ideal)
        (x ((ix2 r a : S256x512.Idx).along 1 k), iotaInDim S256x512 32 1 ((ix2 r a : S256x512.Idx).along 1 k))
        (x ((ix2 r a : S256x512.Idx).along 1 k'), iotaInDim S256x512 32 1 ((ix2 r a : S256x512.Idx).along 1 k')) == 1#1)
      = less fun b => x (ix2 r b) := by
    funext k k'
    rw [comparator_eq, halong, halong]
    unfold less
    by_cases h : x (ix2 r k) < x (ix2 r k') <;> simp [h]
  show iotaInDim S256x512 32 1 ((ix2 r a : S256x512.Idx).along 1 (sortedFrom (fun k k' : Fin 512 => comparator_f32_i32_d1 (F := Ideal)
        (x ((ix2 r a : S256x512.Idx).along 1 k), iotaInDim S256x512 32 1 ((ix2 r a : S256x512.Idx).along 1 k))
        (x ((ix2 r a : S256x512.Idx).along 1 k'), iotaInDim S256x512 32 1 ((ix2 r a : S256x512.Idx).along 1 k')) == 1#1) a)) = _
  rw [hB]
  exact hiota _

/-- The reference's scores. -/
def refScores (g : FVec Ideal S512 .f32) (z : FVec Ideal S256x512 .f32) : FVec Ideal S256x512 .f32 :=
  addf (broadcastInDim S256x512 ![0, 1] bcast_S1x512_S256x512_0_1 (broadcastInDim S1x512 ![1] bcast_S512_S1x512_1 g)) z

/-- The reference's result as a function of its arguments. -/
def refOut (g : FVec Ideal S512 .f32) (z : FVec Ideal S256x512 .f32) : FVec Ideal S256x512x512 .f32 :=
  uitofp .f32 (cmpi .eq (broadcastInDim S256x512x512 ![0, 1, 2] bcast_S256x512x1_S256x512x512_0_1_2
      (broadcastInDim S256x512x1 ![0, 1] bcast_S256x512_S256x512x1_0_1
        ((Host.sort2 S256x512 1 (comparator_f32_i32_d1 (F := Ideal)) (refScores g z) (iotaInDim S256x512 32 1)).2)))
    (broadcastInDim S256x512x512 ![0, 1, 2] bcast_S1x1x512_S256x512x512_0_1_2 (iotaInDim S1x1x512 32 2)))

/-- The reference's scores of a sample. -/
theorem refScores_row (g : FVec Ideal S512 .f32) (z : FVec Ideal S256x512 .f32) (r : Fin 256) :
    (fun b => refScores g z (ix2 r b)) = scoreOf g z r := by
  funext b
  unfold refScores scoreOf
  pointwise

/-- What the reference's result holds: the permutation matrices. -/
theorem refOut_apply (g : FVec Ideal S512 .f32) (z : FVec Ideal S256x512 .f32) (r : Fin 256) (a b : Fin 512) :
    refOut g z (ix3 r a b) = answer g z r a b := by
  unfold refOut
  pointwise
  rw [sort_apply, refScores_row]
  rw [cmpi_eq_small (Fin.isLt _) b.isLt]
  unfold answer
  have h : (sortedFrom (less (scoreOf g z r)) a).val = b.val ↔ rank (scoreOf g z r) b = a.val :=
    Fin.ext_iff.symm.trans (sortedFrom_eq_iff (scoreOf g z r) a b)
  rw [decide_eq_decide.mpr h]
  by_cases hr : rank (scoreOf g z r) b = a.val
  · rw [if_pos hr, decide_eq_true hr]
    show (((1#1).toNat : ℝ) : EReal) = 1
    simp
  · rw [if_neg hr, decide_eq_false hr]
    show (((0#1).toNat : ℝ) : EReal) = 0
    simp

/-- The reference ends with that result, its arguments as launched. -/
theorem run_refOut (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4)
          = refOut (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run (F := Ideal) m ρ

end Cert.ReferenceIdeal.Hand
-- ==== Proof.Equation.lean ====
/- The equation: over the extended reals the kernel and the reference leave the same result. -/
module

public import proofs.«01_k».proof.Proof.ArrayValue
public import proofs.«01_k».proof.Proof.RefValue
public import proofs.«01_k».proof.Defs

@[expose] public section

set_option maxRecDepth 16384

noncomputable section

namespace Cert.Proof

open Idealize.ShloMosaic Idealize.ShloMosaic.TcCoe Idealize.SL.Sem

/-- From the same arguments the reference's result is the kernel's, entry by entry. -/
theorem refOut_eq_finalOut (m : (ℓ : Loc Cert.KernelIdeal.nD Cert.KernelIdeal.τ Cert.KernelIdeal.sig) → Buf (Elt Ideal) ℓ)
    (c : Dev Cert.KernelIdeal.nD) :
    Cert.ReferenceIdeal.Hand.refOut (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
      = Cert.KernelIdeal.Hand.finalOut (Cert.KernelIdeal.Hand.blockScores m c) := by
  funext j
  rw [eq_ix3 j]
  exact (Cert.ReferenceIdeal.Hand.refOut_apply _ _ _ _ _).trans (Cert.KernelIdeal.Hand.finalOut_apply m c _ _ _).symm

/-- The kernel and the reference, run from the same arguments, end with the same result. -/
theorem algebraic : Cert.algebraic_KernelIdeal_ReferenceIdeal (hKernelIdeal := Cert.KernelIdeal.Gen.facts)
    (hReferenceIdeal := Cert.ReferenceIdeal.Gen.facts) := by
  intro m g m' g' _ hargs
  have hk := (θ_run _ _ _).mono (fun _ h => h.1 : ∀ r, Cert.KernelIdeal.Hand.Leaves (F := Ideal) m r → ∀ c, _)
    (Cert.KernelIdeal.Hand.run_main (F := Ideal) m g)
  refine ⟨fun c => Cert.KernelIdeal.Hand.finalOut (Cert.KernelIdeal.Hand.blockScores m c), hk, ?_⟩
  refine (θ_run _ _ _).mono (fun r h c => ?_) (Cert.ReferenceIdeal.Hand.run_refOut m' g')
  have e : Cert.ReferenceIdeal.Hand.refOut (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
      = Cert.KernelIdeal.Hand.finalOut (Cert.KernelIdeal.Hand.blockScores m c) := by
    rw [(hargs c).2.1, (hargs c).2.2]
    exact refOut_eq_finalOut m c
  exact ⟨(h c).1.trans e, (h c).2⟩

end Cert.Proof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_words, frame_ideal, frame_reference, trivial, algebraic⟩

end Cert.Proof

end
